-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "inv_routes" .f32 0x3D23D70A#32 ((25⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v47)) (v3 : (c : Dev Cert.KernelIdeal.nD) → Buf (Elt Ideal) ((c.tc : Thread Cert.KernelIdeal.nD Cert.KernelIdeal.τ).loc Cert.KernelIdeal.main_v50)) (v4 : (c : Dev Cert.KernelIdeal.nD) → Buf (Elt Ideal) ((c.tc : Thread Cert.KernelIdeal.nD Cert.KernelIdeal.τ).loc Cert.KernelIdeal.main_v42_5)) (v5 : (c : Dev Cert.KernelIdeal.nD) → Buf (Elt Ideal) ((c.tc : Thread Cert.KernelIdeal.nD Cert.KernelIdeal.τ).loc Cert.KernelIdeal.main_v42_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_v50) = v3 c
          ∧ r.2.mem ((c.tc : Thread Cert.KernelIdeal.nD Cert.KernelIdeal.τ).loc Cert.KernelIdeal.main_v42_5) = v4 c
          ∧ r.2.mem ((c.tc : Thread Cert.KernelIdeal.nD Cert.KernelIdeal.τ).loc Cert.KernelIdeal.main_v42_6) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_v117) = v3 c
          ∧ r.2.mem ((c.tc : Thread Cert.ReferenceIdeal.nD Cert.ReferenceIdeal.τ).loc Cert.ReferenceIdeal.main_v112) = v4 c
          ∧ r.2.mem ((c.tc : Thread Cert.ReferenceIdeal.nD Cert.ReferenceIdeal.τ).loc Cert.ReferenceIdeal.main_v73) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x32x21x11 : Shape := ⟨4, ![512, 32, 21, 11]⟩
abbrev S512x5x10 : Shape := ⟨3, ![512, 5, 10]⟩
abbrev S512x70x20x12 : Shape := ⟨4, ![512, 70, 20, 12]⟩
abbrev S512x70x1 : Shape := ⟨3, ![512, 70, 1]⟩
abbrev S512x25x20x12 : Shape := ⟨4, ![512, 25, 20, 12]⟩
abbrev S231x256 : Shape := ⟨2, ![231, 256]⟩
abbrev S256 : Shape := ⟨1, ![256]⟩
abbrev S5x256 : Shape := ⟨2, ![5, 256]⟩
abbrev S10x256 : Shape := ⟨2, ![10, 256]⟩
abbrev S240x256 : Shape := ⟨2, ![240, 256]⟩
abbrev S1x256 : Shape := ⟨2, ![1, 256]⟩
abbrev S4x256 : Shape := ⟨2, ![4, 256]⟩
abbrev S7x256 : Shape := ⟨2, ![7, 256]⟩
abbrev S16384x231 : Shape := ⟨2, ![16384, 231]⟩
abbrev S2560x10 : Shape := ⟨2, ![2560, 10]⟩
abbrev S35840x240 : Shape := ⟨2, ![35840, 240]⟩
abbrev S_ : Shape := ⟨0, ![]⟩
abbrev S512x70x3 : Shape := ⟨3, ![512, 70, 3]⟩
abbrev S35840x3 : Shape := ⟨2, ![35840, 3]⟩
abbrev S3x256 : Shape := ⟨2, ![3, 256]⟩
abbrev S12800x240 : Shape := ⟨2, ![12800, 240]⟩
abbrev S512x32x1x2 : Shape := ⟨4, ![512, 32, 1, 2]⟩
abbrev S512x32x2 : Shape := ⟨3, ![512, 32, 2]⟩
abbrev S512x32x1 : Shape := ⟨3, ![512, 32, 1]⟩
abbrev S512x32 : Shape := ⟨2, ![512, 32]⟩
abbrev S512x5x1 : Shape := ⟨3, ![512, 5, 1]⟩
abbrev S512x5 : Shape := ⟨2, ![512, 5]⟩
abbrev S512x70x1x1 : Shape := ⟨4, ![512, 70, 1, 1]⟩
abbrev S512x70 : Shape := ⟨2, ![512, 70]⟩
abbrev S512x8 : Shape := ⟨2, ![512, 8]⟩
abbrev S512x10x1 : Shape := ⟨3, ![512, 10, 1]⟩
abbrev S512x10 : Shape := ⟨2, ![512, 10]⟩
abbrev S512x125 : Shape := ⟨2, ![512, 125]⟩
abbrev S512x128 : Shape := ⟨2, ![512, 128]⟩
abbrev S512x37x256 : Shape := ⟨3, ![512, 37, 256]⟩
abbrev S512x70x256 : Shape := ⟨3, ![512, 70, 256]⟩
abbrev S16384x1 : Shape := ⟨2, ![16384, 1]⟩
abbrev S2560x1 : Shape := ⟨2, ![2560, 1]⟩
abbrev S35840x1 : Shape := ⟨2, ![35840, 1]⟩
abbrev S512x256 : Shape := ⟨2, ![512, 256]⟩
abbrev S512x125x125 : Shape := ⟨3, ![512, 125, 125]⟩
abbrev S1024x231 : Shape := ⟨2, ![1024, 231]⟩
abbrev S160x10 : Shape := ⟨2, ![160, 10]⟩
abbrev S2240x240 : Shape := ⟨2, ![2240, 240]⟩
abbrev S2240x3 : Shape := ⟨2, ![2240, 3]⟩
abbrev S800x240 : Shape := ⟨2, ![800, 240]⟩
abbrev S32x128 : Shape := ⟨2, ![32, 128]⟩
abbrev S32x37x256 : Shape := ⟨3, ![32, 37, 256]⟩
abbrev S32x70x256 : Shape := ⟨3, ![32, 70, 256]⟩
abbrev S1024x1 : Shape := ⟨2, ![1024, 1]⟩
abbrev S160x1 : Shape := ⟨2, ![160, 1]⟩
abbrev S2240x1 : Shape := ⟨2, ![2240, 1]⟩
abbrev S32x256 : Shape := ⟨2, ![32, 256]⟩
abbrev S32x125x125 : Shape := ⟨3, ![32, 125, 125]⟩
abbrev S231x1 : Shape := ⟨2, ![231, 1]⟩
abbrev S1024x5 : Shape := ⟨2, ![1024, 5]⟩
abbrev S1024x256 : Shape := ⟨2, ![1024, 256]⟩
abbrev S1024x7 : Shape := ⟨2, ![1024, 7]⟩
abbrev S10x1 : Shape := ⟨2, ![10, 1]⟩
abbrev S160x256 : Shape := ⟨2, ![160, 256]⟩
abbrev S160x7 : Shape := ⟨2, ![160, 7]⟩
abbrev S240x1 : Shape := ⟨2, ![240, 1]⟩
abbrev S2240x4 : Shape := ⟨2, ![2240, 4]⟩
abbrev S2240x256 : Shape := ⟨2, ![2240, 256]⟩
abbrev S2240x7 : Shape := ⟨2, ![2240, 7]⟩
abbrev S800x256 : Shape := ⟨2, ![800, 256]⟩
abbrev S32x800 : Shape := ⟨2, ![32, 800]⟩
abbrev S128x32 : Shape := ⟨2, ![128, 32]⟩
abbrev S1x32x256 : Shape := ⟨3, ![1, 32, 256]⟩
abbrev S1x5x256 : Shape := ⟨3, ![1, 5, 256]⟩
abbrev S70x256 : Shape := ⟨2, ![70, 256]⟩
abbrev S1x70x256 : Shape := ⟨3, ![1, 70, 256]⟩
abbrev S128x1 : Shape := ⟨2, ![128, 1]⟩
abbrev S1x128 : Shape := ⟨2, ![1, 128]⟩
abbrev S128x128 : Shape := ⟨2, ![128, 128]⟩
abbrev S125x125 : Shape := ⟨2, ![125, 125]⟩
abbrev S1x125x125 : Shape := ⟨3, ![1, 125, 125]⟩
abbrev S512x37 : Shape := ⟨2, ![512, 37]⟩

abbrev nBuf : Space → Nat
  | .hbm => 87
  | .vmem => 41
  | .smem => 0
  | _ => 0

abbrev bufTy : (tb : Table) → Fin (tcTables nBuf tb) → BufTy
  | .hbm, ⟨0, _⟩ => ⟨S512x32x21x11, .f32⟩
  | .hbm, ⟨1, _⟩ => ⟨S512x5x10, .f32⟩
  | .hbm, ⟨2, _⟩ => ⟨S512x70x20x12, .f32⟩
  | .hbm, ⟨3, _⟩ => ⟨S512x70x1, .f32⟩
  | .hbm, ⟨4, _⟩ => ⟨S512x70x1, .i1⟩
  | .hbm, ⟨5, _⟩ => ⟨S512x25x20x12, .f32⟩
  | .hbm, ⟨6, _⟩ => ⟨S231x256, .f32⟩
  | .hbm, ⟨7, _⟩ => ⟨S256, .f32⟩
  | .hbm, ⟨8, _⟩ => ⟨S5x256, .f32⟩
  | .hbm, ⟨9, _⟩ => ⟨S10x256, .f32⟩
  | .hbm, ⟨10, _⟩ => ⟨S256, .f32⟩
  | .hbm, ⟨11, _⟩ => ⟨S240x256, .f32⟩
  | .hbm, ⟨12, _⟩ => ⟨S256, .f32⟩
  | .hbm, ⟨13, _⟩ => ⟨S1x256, .f32⟩
  | .hbm, ⟨14, _⟩ => ⟨S256, .f32⟩
  | .hbm, ⟨15, _⟩ => ⟨S256, .f32⟩
  | .hbm, ⟨16, _⟩ => ⟨S4x256, .f32⟩
  | .hbm, ⟨17, _⟩ => ⟨S240x256, .f32⟩
  | .hbm, ⟨18, _⟩ => ⟨S256, .f32⟩
  | .hbm, ⟨19, _⟩ => ⟨S7x256, .f32⟩
  | .hbm, ⟨20, _⟩ => ⟨S256, .f32⟩
  | .hbm, ⟨21, _⟩ => ⟨S16384x231, .f32⟩
  | .hbm, ⟨22, _⟩ => ⟨S2560x10, .f32⟩
  | .hbm, ⟨23, _⟩ => ⟨S512x70x1, .f32⟩
  | .hbm, ⟨24, _⟩ => ⟨S35840x240, .f32⟩
  | .hbm, ⟨25, _⟩ => ⟨S512x70x1, .f32⟩
  | .hbm, ⟨26, _⟩ => ⟨S_, .f32⟩
  | .hbm, ⟨27, _⟩ => ⟨S512x70x1, .f32⟩
  | .hbm, ⟨28, _⟩ => ⟨S512x70x1, .f32⟩
  | .hbm, ⟨29, _⟩ => ⟨S512x70x3, .f32⟩
  | .hbm, ⟨30, _⟩ => ⟨S35840x3, .f32⟩
  | .hbm, ⟨31, _⟩ => ⟨S1x256, .f32⟩
  | .hbm, ⟨32, _⟩ => ⟨S1x256, .f32⟩
  | .hbm, ⟨33, _⟩ => ⟨S3x256, .f32⟩
  | .hbm, ⟨34, _⟩ => ⟨S12800x240, .f32⟩
  | .hbm, ⟨35, _⟩ => ⟨S512x32x1x2, .f32⟩
  | .hbm, ⟨36, _⟩ => ⟨S512x32x2, .f32⟩
  | .hbm, ⟨37, _⟩ => ⟨S512x32x1, .f32⟩
  | .hbm, ⟨38, _⟩ => ⟨S512x32, .f32⟩
  | .hbm, ⟨39, _⟩ => ⟨S512x5x1, .f32⟩
  | .hbm, ⟨40, _⟩ => ⟨S512x5, .f32⟩
  | .hbm, ⟨41, _⟩ => ⟨S512x70x1x1, .f32⟩
  | .hbm, ⟨42, _⟩ => ⟨S512x70, .f32⟩
  | .hbm, ⟨43, _⟩ => ⟨S_, .f32⟩
  | .hbm, ⟨44, _⟩ => ⟨S512x8, .f32⟩
  | .hbm, ⟨45, _⟩ => ⟨S512x10x1, .f32⟩
  | .hbm, ⟨46, _⟩ => ⟨S512x10, .f32⟩
  | .hbm, ⟨47, _⟩ => ⟨S512x125, .f32⟩
  | .hbm, ⟨48, _⟩ => ⟨S512x32x1, .f32⟩
  | .hbm, ⟨49, _⟩ => ⟨S512x32, .f32⟩
  | .hbm, ⟨50, _⟩ => ⟨S512x5x1, .f32⟩
  | .hbm, ⟨51, _⟩ => ⟨S512x5, .f32⟩
  | .hbm, ⟨52, _⟩ => ⟨S512x70x1x1, .f32⟩
  | .hbm, ⟨53, _⟩ => ⟨S512x70, .f32⟩
  | .hbm, ⟨54, _⟩ => ⟨S_, .f32⟩
  | .hbm, ⟨55, _⟩ => ⟨S512x8, .f32⟩
  | .hbm, ⟨56, _⟩ => ⟨S512x10x1, .f32⟩
  | .hbm, ⟨57, _⟩ => ⟨S512x10, .f32⟩
  | .hbm, ⟨58, _⟩ => ⟨S512x125, .f32⟩
  | .hbm, ⟨59, _⟩ => ⟨S_, .i32⟩
  | .hbm, ⟨60, _⟩ => ⟨S_, .f32⟩
  | .hbm, ⟨61, _⟩ => ⟨S512x128, .f32⟩
  | .hbm, ⟨62, _⟩ => ⟨S_, .i32⟩
  | .hbm, ⟨63, _⟩ => ⟨S_, .f32⟩
  | .hbm, ⟨64, _⟩ => ⟨S512x128, .f32⟩
  | .hbm, ⟨65, _⟩ => ⟨S1x256, .f32⟩
  | .hbm, ⟨66, _⟩ => ⟨S1x256, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S512x37x256, .f32⟩
  | .hbm, ⟨71, _⟩ => ⟨S512x70x256, .f32⟩
  | .hbm, ⟨72, _⟩ => ⟨S16384x1, .f32⟩
  | .hbm, ⟨73, _⟩ => ⟨S2560x1, .f32⟩
  | .hbm, ⟨74, _⟩ => ⟨S35840x1, .f32⟩
  | .hbm, ⟨75, _⟩ => ⟨S512x256, .f32⟩
  | .hbm, ⟨76, _⟩ => ⟨S512x125x125, .f32⟩
  | .hbm, ⟨77, _⟩ => ⟨S512x32, .f32⟩
  | .hbm, ⟨78, _⟩ => ⟨S512x5, .f32⟩
  | .hbm, ⟨79, _⟩ => ⟨S512x37, .f32⟩
  | .hbm, ⟨80, _⟩ => ⟨S_, .f32⟩
  | .hbm, ⟨81, _⟩ => ⟨S512x37, .f32⟩
  | .hbm, ⟨82, _⟩ => ⟨S512x37, .i1⟩
  | .hbm, ⟨83, _⟩ => ⟨S512x70, .f32⟩
  | .hbm, ⟨84, _⟩ => ⟨S_, .f32⟩
  | .hbm, ⟨85, _⟩ => ⟨S512x70, .f32⟩
  | .hbm, ⟨86, _⟩ => ⟨S512x70, .i1⟩
  | .local _ .vmem, ⟨0, _⟩ => ⟨S1024x231, .f32⟩
  | .local _ .vmem, ⟨1, _⟩ => ⟨S1024x231, .f32⟩
  | .local _ .vmem, ⟨2, _⟩ => ⟨S160x10, .f32⟩
  | .local _ .vmem, ⟨3, _⟩ => ⟨S160x10, .f32⟩
  | .local _ .vmem, ⟨4, _⟩ => ⟨S2240x240, .f32⟩
  | .local _ .vmem, ⟨5, _⟩ => ⟨S2240x240, .f32⟩
  | .local _ .vmem, ⟨6, _⟩ => ⟨S2240x3, .f32⟩
  | .local _ .vmem, ⟨7, _⟩ => ⟨S2240x3, .f32⟩
  | .local _ .vmem, ⟨8, _⟩ => ⟨S800x240, .f32⟩
  | .local _ .vmem, ⟨9, _⟩ => ⟨S800x240, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S231x256, .f32⟩
  | .local _ .vmem, ⟨15, _⟩ => ⟨S1x256, .f32⟩
  | .local _ .vmem, ⟨16, _⟩ => ⟨S5x256, .f32⟩
  | .local _ .vmem, ⟨17, _⟩ => ⟨S10x256, .f32⟩
  | .local _ .vmem, ⟨18, _⟩ => ⟨S1x256, .f32⟩
  | .local _ .vmem, ⟨19, _⟩ => ⟨S240x256, .f32⟩
  | .local _ .vmem, ⟨20, _⟩ => ⟨S1x256, .f32⟩
  | .local _ .vmem, ⟨21, _⟩ => ⟨S3x256, .f32⟩
  | .local _ .vmem, ⟨22, _⟩ => ⟨S4x256, .f32⟩
  | .local _ .vmem, ⟨23, _⟩ => ⟨S240x256, .f32⟩
  | .local _ .vmem, ⟨24, _⟩ => ⟨S1x256, .f32⟩
  | .local _ .vmem, ⟨25, _⟩ => ⟨S7x256, .f32⟩
  | .local _ .vmem, ⟨26, _⟩ => ⟨S1x256, .f32⟩
  | .local _ .vmem, ⟨27, _⟩ => ⟨S32x37x256, .f32⟩
  | .local _ .vmem, ⟨28, _⟩ => ⟨S32x37x256, .f32⟩
  | .local _ .vmem, ⟨29, _⟩ => ⟨S32x70x256, .f32⟩
  | .local _ .vmem, ⟨30, _⟩ => ⟨S32x70x256, .f32⟩
  | .local _ .vmem, ⟨31, _⟩ => ⟨S1024x1, .f32⟩
  | .local _ .vmem, ⟨32, _⟩ => ⟨S1024x1, .f32⟩
  | .local _ .vmem, ⟨33, _⟩ => ⟨S160x1, .f32⟩
  | .local _ .vmem, ⟨34, _⟩ => ⟨S160x1, .f32⟩
  | .local _ .vmem, ⟨35, _⟩ => ⟨S2240x1, .f32⟩
  | .local _ .vmem, ⟨36, _⟩ => ⟨S2240x1, .f32⟩
  | .local _ .vmem, ⟨37, _⟩ => ⟨S32x256, .f32⟩
  | .local _ .vmem, ⟨38, _⟩ => ⟨S32x256, .f32⟩
  | .local _ .vmem, ⟨39, _⟩ => ⟨S32x125x125, .f32⟩
  | .local _ .vmem, ⟨40, _⟩ => ⟨S32x125x125, .f32⟩
  | _, _ => ⟨S512x32x21x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c : Ref sig .tc := ⟨.hbm, 59, rfl⟩
abbrev main_call0_v0 : Ref sig .tc := ⟨.hbm, 60, rfl⟩
abbrev main_v35 : Ref sig .tc := ⟨.hbm, 61, rfl⟩
abbrev main_c_2 : Ref sig .tc := ⟨.hbm, 62, rfl⟩
abbrev main_call1_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42_0 : Ref sig .tc := ⟨.hbm, 70, rfl⟩
abbrev main_v42_1 : Ref sig .tc := ⟨.hbm, 71, rfl⟩
abbrev main_v42_2 : Ref sig .tc := ⟨.hbm, 72, rfl⟩
abbrev main_v42_3 : Ref sig .tc := ⟨.hbm, 73, rfl⟩
abbrev main_v42_4 : Ref sig .tc := ⟨.hbm, 74, rfl⟩
abbrev main_v42_5 : Ref sig .tc := ⟨.hbm, 75, rfl⟩
abbrev main_v42_6 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_3 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_4 : Ref sig .tc := ⟨.hbm, 84, rfl⟩
abbrev main_v49 : Ref sig .tc := ⟨.hbm, 85, rfl⟩
abbrev main_v50 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x231 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2240x240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2240x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S800x240 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S231x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S240x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S240x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S7x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S32x37x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x70x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S160x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2240x1 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S32x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S32x125x125 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== KernelIdeal.lean ====
variable {F : FTy → Type} [FloatOps F] [Named F]
def κ : String → Option EReal := fun
  | "inv_routes" => some ((25⁻¹ : ℝ) : EReal)
  | _ => none
-- ==== ReferenceIdeal.lean ====
abbrev S512x32x21x11 : Shape := ⟨4, ![512, 32, 21, 11]⟩
abbrev S512x5x10 : Shape := ⟨3, ![512, 5, 10]⟩
abbrev S512x70x20x12 : Shape := ⟨4, ![512, 70, 20, 12]⟩
abbrev S512x70x1 : Shape := ⟨3, ![512, 70, 1]⟩
abbrev S512x25x20x12 : Shape := ⟨4, ![512, 25, 20, 12]⟩
abbrev S231x256 : Shape := ⟨2, ![231, 256]⟩
abbrev S256 : Shape := ⟨1, ![256]⟩
abbrev S5x256 : Shape := ⟨2, ![5, 256]⟩
abbrev S10x256 : Shape := ⟨2, ![10, 256]⟩
abbrev S240x256 : Shape := ⟨2, ![240, 256]⟩
abbrev S1x256 : Shape := ⟨2, ![1, 256]⟩
abbrev S4x256 : Shape := ⟨2, ![4, 256]⟩
abbrev S7x256 : Shape := ⟨2, ![7, 256]⟩
abbrev S2 : Shape := ⟨1, ![2]⟩
abbrev S_ : Shape := ⟨0, ![]⟩
abbrev S512x32 : Shape := ⟨2, ![512, 32]⟩
abbrev S512x32x1x1 : Shape := ⟨4, ![512, 32, 1, 1]⟩
abbrev S512x32x231 : Shape := ⟨3, ![512, 32, 231]⟩
abbrev S512x32x256 : Shape := ⟨3, ![512, 32, 256]⟩
abbrev S1x1x256 : Shape := ⟨3, ![1, 1, 256]⟩
abbrev S512x32x1 : Shape := ⟨3, ![512, 32, 1]⟩
abbrev S1 : Shape := ⟨1, ![1]⟩
abbrev S1x1x1 : Shape := ⟨3, ![1, 1, 1]⟩
abbrev S512x32x1x7 : Shape := ⟨4, ![512, 32, 1, 7]⟩
abbrev S512x32x7 : Shape := ⟨3, ![512, 32, 7]⟩
abbrev S512x5 : Shape := ⟨2, ![512, 5]⟩
abbrev S512x5x256 : Shape := ⟨3, ![512, 5, 256]⟩
abbrev S512x5x7 : Shape := ⟨3, ![512, 5, 7]⟩
abbrev S512x70 : Shape := ⟨2, ![512, 70]⟩
abbrev S512x70x1x1 : Shape := ⟨4, ![512, 70, 1, 1]⟩
abbrev S512x70x256 : Shape := ⟨3, ![512, 70, 256]⟩
abbrev S512x70x240 : Shape := ⟨3, ![512, 70, 240]⟩
abbrev S512x70x1x7 : Shape := ⟨4, ![512, 70, 1, 7]⟩
abbrev S512x70x7 : Shape := ⟨3, ![512, 70, 7]⟩
abbrev S512x70x1x2 : Shape := ⟨4, ![512, 70, 1, 2]⟩
abbrev S512x70x2 : Shape := ⟨3, ![512, 70, 2]⟩
abbrev S512x5x2 : Shape := ⟨3, ![512, 5, 2]⟩
abbrev S512x32x1x2 : Shape := ⟨4, ![512, 32, 1, 2]⟩
abbrev S512x32x2 : Shape := ⟨3, ![512, 32, 2]⟩
abbrev S1x1x2 : Shape := ⟨3, ![1, 1, 2]⟩
abbrev S1x1x1x1x1x2 : Shape := ⟨6, ![1, 1, 1, 1, 1, 2]⟩
abbrev S512x1x8x1x1x2 : Shape := ⟨6, ![512, 1, 8, 1, 1, 2]⟩
abbrev S512x8x2 : Shape := ⟨3, ![512, 8, 2]⟩
abbrev S512x10x1x2 : Shape := ⟨4, ![512, 10, 1, 2]⟩
abbrev S512x10x2 : Shape := ⟨3, ![512, 10, 2]⟩
abbrev S512x125x2 : Shape := ⟨3, ![512, 125, 2]⟩
abbrev S512x1x125x2 : Shape := ⟨4, ![512, 1, 125, 2]⟩
abbrev S512x125x1x2 : Shape := ⟨4, ![512, 125, 1, 2]⟩
abbrev S512x125x125x2 : Shape := ⟨4, ![512, 125, 125, 2]⟩
abbrev S512x125x125 : Shape := ⟨3, ![512, 125, 125]⟩
abbrev S16384x7 : Shape := ⟨2, ![16384, 7]⟩
abbrev S16384 : Shape := ⟨1, ![16384]⟩
abbrev S16384x256 : Shape := ⟨2, ![16384, 256]⟩
abbrev S16384x1 : Shape := ⟨2, ![16384, 1]⟩
abbrev S2560x7 : Shape := ⟨2, ![2560, 7]⟩
abbrev S2560 : Shape := ⟨1, ![2560]⟩
abbrev S2560x256 : Shape := ⟨2, ![2560, 256]⟩
abbrev S2560x1 : Shape := ⟨2, ![2560, 1]⟩
abbrev S35840x7 : Shape := ⟨2, ![35840, 7]⟩
abbrev S35840 : Shape := ⟨1, ![35840]⟩
abbrev S35840x256 : Shape := ⟨2, ![35840, 256]⟩
abbrev S35840x1 : Shape := ⟨2, ![35840, 1]⟩
abbrev S512x25x240 : Shape := ⟨3, ![512, 25, 240]⟩
abbrev S512x25x256 : Shape := ⟨3, ![512, 25, 256]⟩
abbrev S512x256 : Shape := ⟨2, ![512, 256]⟩
abbrev S512x37x256 : Shape := ⟨3, ![512, 37, 256]⟩
abbrev S512x37 : Shape := ⟨2, ![512, 37]⟩

abbrev nBuf : Space → Nat
  | .hbm => 253
  | .vmem => 0
  | .smem => 0
  | _ => 0

abbrev hbmTy0_0 (i : Nat) : BufTy := match i % 128 with
  | 0 => ⟨S512x32x21x11, .f32⟩
  | 1 => ⟨S512x5x10, .f32⟩
  | 2 => ⟨S512x70x20x12, .f32⟩
  | 3 => ⟨S512x70x1, .f32⟩
  | 4 => ⟨S512x70x1, .i1⟩
  | 5 => ⟨S512x25x20x12, .f32⟩
  | 6 => ⟨S231x256, .f32⟩
  | 7 => ⟨S256, .f32⟩
  | 8 => ⟨S5x256, .f32⟩
  | 9 => ⟨S10x256, .f32⟩
  | 10 => ⟨S256, .f32⟩
  | 11 => ⟨S240x256, .f32⟩
  | 12 => ⟨S256, .f32⟩
  | 13 => ⟨S1x256, .f32⟩
  | 14 => ⟨S256, .f32⟩
  | 15 => ⟨S256, .f32⟩
  | 16 => ⟨S4x256, .f32⟩
  | 17 => ⟨S240x256, .f32⟩
  | 18 => ⟨S256, .f32⟩
  | 19 => ⟨S7x256, .f32⟩
  | 20 => ⟨S256, .f32⟩
  | 21 => ⟨S2, .f32⟩
  | 22 => ⟨S512x32x21x11, .f32⟩
  | 23 => ⟨S_, .f32⟩
  | 24 => ⟨S512x32, .f32⟩
  | 25 => ⟨S_, .f32⟩
  | 26 => ⟨S512x32, .f32⟩
  | 27 => ⟨S512x32, .i1⟩
  | 28 => ⟨S512x32x1x1, .f32⟩
  | 29 => ⟨S512x32, .f32⟩
  | 30 => ⟨S512x32, .f32⟩
  | 31 => ⟨S_, .f32⟩
  | 32 => ⟨S512x32, .f32⟩
  | 33 => ⟨S512x32, .f32⟩
  | 34 => ⟨S512x32, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S512x32, .i32⟩
  | 42 => ⟨S512x32, .i32⟩
  | 43 => ⟨S_, .i32⟩
  | 44 => ⟨S512x32, .i32⟩
  | 45 => ⟨S512x32, .i1⟩
  | 46 => ⟨S_, .i32⟩
  | 47 => ⟨S512x32, .i32⟩
  | 48 => ⟨S512x32, .i1⟩
  | 49 => ⟨S_, .i32⟩
  | 50 => ⟨S_, .i1⟩
  | 51 => ⟨S512x32, .i1⟩
  | 52 => ⟨S512x32, .i1⟩
  | 53 => ⟨S512x32, .i1⟩
  | 54 => ⟨S512x32, .i32⟩
  | 55 => ⟨S512x32, .i32⟩
  | 56 => ⟨S512x32, .i32⟩
  | 57 => ⟨S512x32x231, .f32⟩
  | 58 => ⟨S512x32x256, .f32⟩
  | 59 => ⟨S1x1x256, .f32⟩
  | 60 => ⟨S512x32x256, .f32⟩
  | 61 => ⟨S512x32x256, .f32⟩
  | 62 => ⟨S_, .i32⟩
  | 63 => ⟨S512x32, .i32⟩
  | 64 => ⟨S512x32, .i1⟩
  | 65 => ⟨S_, .i32⟩
  | 66 => ⟨S512x32, .i32⟩
  | 67 => ⟨S512x32, .i32⟩
  | 68 => ⟨S512x32, .i32⟩
  | 69 => ⟨S512x32x1, .i32⟩
  | 70 => ⟨S1, .i32⟩
  | 71 => ⟨S_, .i32⟩
  | 72 => ⟨S512x32x1, .i32⟩
  | 73 => ⟨S512x32x1, .i1⟩
  | 74 => ⟨S1x1x1, .i32⟩
  | 75 => ⟨S512x32x1, .i32⟩
  | 76 => ⟨S512x32x1, .i1⟩
  | 77 => ⟨S512x32x1, .i1⟩
  | 78 => ⟨S_, .i1⟩
  | 79 => ⟨S512x32, .i1⟩
  | 80 => ⟨S512x32x256, .f32⟩
  | 81 => ⟨S512x32x256, .i1⟩
  | 82 => ⟨S_, .f32⟩
  | 83 => ⟨S512x32x256, .f32⟩
  | 84 => ⟨S512x32x256, .f32⟩
  | 85 => ⟨S512x32x256, .f32⟩
  | 86 => ⟨S512x32x1x7, .f32⟩
  | 87 => ⟨S512x32x7, .f32⟩
  | 88 => ⟨S512x5x10, .f32⟩
  | 89 => ⟨S_, .f32⟩
  | 90 => ⟨S512x5, .f32⟩
  | 91 => ⟨S_, .f32⟩
  | 92 => ⟨S512x5, .f32⟩
  | 93 => ⟨S512x5, .i1⟩
  | 94 => ⟨S512x5x256, .f32⟩
  | 95 => ⟨S1x1x256, .f32⟩
  | 96 => ⟨S512x5x256, .f32⟩
  | 97 => ⟨S512x5x256, .f32⟩
  | 98 => ⟨S512x5x7, .f32⟩
  | 99 => ⟨S512x70x20x12, .f32⟩
  | 100 => ⟨S_, .f32⟩
  | 101 => ⟨S512x70, .f32⟩
  | 102 => ⟨S_, .f32⟩
  | 103 => ⟨S512x70, .f32⟩
  | 104 => ⟨S512x70, .i1⟩
  | 105 => ⟨S512x70x1x1, .f32⟩
  | 106 => ⟨S512x70, .f32⟩
  | 107 => ⟨S512x70, .f32⟩
  | 108 => ⟨S_, .f32⟩
  | 109 => ⟨S512x70, .f32⟩
  | 110 => ⟨S512x70, .f32⟩
  | 111 => ⟨S512x70, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S512x70, .i32⟩
  | 119 => ⟨S512x70, .i32⟩
  | 120 => ⟨S_, .i32⟩
  | 121 => ⟨S512x70, .i32⟩
  | 122 => ⟨S512x70, .i1⟩
  | 123 => ⟨S_, .i32⟩
  | 124 => ⟨S512x70, .i32⟩
  | 125 => ⟨S512x70, .i1⟩
  | 126 => ⟨S_, .i32⟩
  | 127 => ⟨S_, .i1⟩
  | _ => ⟨S512x32x21x11, .f32⟩

abbrev hbmTy0_1 (i : Nat) : BufTy := match i % 128 with
  | 0 => ⟨S512x70, .i1⟩
  | 1 => ⟨S512x70, .i1⟩
  | 2 => ⟨S512x70, .i1⟩
  | 3 => ⟨S512x70, .i32⟩
  | 4 => ⟨S512x70, .i32⟩
  | 5 => ⟨S512x70, .i32⟩
  | 6 => ⟨S512x70x256, .f32⟩
  | 7 => ⟨S1x1x256, .f32⟩
  | 8 => ⟨S512x70x256, .f32⟩
  | 9 => ⟨S512x70x256, .f32⟩
  | 10 => ⟨S1x1x256, .f32⟩
  | 11 => ⟨S512x70x256, .i1⟩
  | 12 => ⟨S512x70x256, .f32⟩
  | 13 => ⟨S512x70x256, .f32⟩
  | 14 => ⟨S512x70x240, .f32⟩
  | 15 => ⟨S512x70x256, .f32⟩
  | 16 => ⟨S1x1x256, .f32⟩
  | 17 => ⟨S512x70x256, .f32⟩
  | 18 => ⟨S512x70x256, .f32⟩
  | 19 => ⟨S512x70x256, .f32⟩
  | 20 => ⟨S_, .i32⟩
  | 21 => ⟨S512x70, .i32⟩
  | 22 => ⟨S512x70, .i1⟩
  | 23 => ⟨S_, .i32⟩
  | 24 => ⟨S512x70, .i32⟩
  | 25 => ⟨S512x70, .i32⟩
  | 26 => ⟨S512x70, .i32⟩
  | 27 => ⟨S512x70x1, .i32⟩
  | 28 => ⟨S1, .i32⟩
  | 29 => ⟨S_, .i32⟩
  | 30 => ⟨S512x70x1, .i32⟩
  | 31 => ⟨S512x70x1, .i1⟩
  | 32 => ⟨S1x1x1, .i32⟩
  | 33 => ⟨S512x70x1, .i32⟩
  | 34 => ⟨S512x70x1, .i1⟩
  | 35 => ⟨S512x70x1, .i1⟩
  | 36 => ⟨S_, .i1⟩
  | 37 => ⟨S512x70, .i1⟩
  | 38 => ⟨S512x70x256, .f32⟩
  | 39 => ⟨S512x70x256, .i1⟩
  | 40 => ⟨S_, .f32⟩
  | 41 => ⟨S512x70x256, .f32⟩
  | 42 => ⟨S512x70x256, .f32⟩
  | 43 => ⟨S512x70x256, .f32⟩
  | 44 => ⟨S512x70x1x7, .f32⟩
  | 45 => ⟨S512x70x7, .f32⟩
  | 46 => ⟨S512x70x1x2, .f32⟩
  | 47 => ⟨S512x70x2, .f32⟩
  | 48 => ⟨S512x5x2, .f32⟩
  | 49 => ⟨S512x32x1x2, .f32⟩
  | 50 => ⟨S512x32x2, .f32⟩
  | 51 => ⟨S1x1x2, .f32⟩
  | 52 => ⟨S1x1x1x1x1x2, .f32⟩
  | 53 => ⟨S512x1x8x1x1x2, .f32⟩
  | 54 => ⟨S512x8x2, .f32⟩
  | 55 => ⟨S512x10x1x2, .f32⟩
  | 56 => ⟨S512x10x2, .f32⟩
  | 57 => ⟨S512x125x2, .f32⟩
  | 58 => ⟨S512x1x125x2, .f32⟩
  | 59 => ⟨S512x125x1x2, .f32⟩
  | 60 => ⟨S512x125x125x2, .f32⟩
  | 61 => ⟨S512x125x125x2, .f32⟩
  | 62 => ⟨S512x125x125x2, .f32⟩
  | 63 => ⟨S512x125x125x2, .f32⟩
  | 64 => ⟨S_, .f32⟩
  | 65 => ⟨S512x125x125, .f32⟩
  | 66 => ⟨S512x125x125, .f32⟩
  | 67 => ⟨S16384x7, .f32⟩
  | 68 => ⟨S16384, .i1⟩
  | 69 => ⟨S16384x256, .f32⟩
  | 70 => ⟨S1x256, .f32⟩
  | 71 => ⟨S16384x256, .f32⟩
  | 72 => ⟨S16384x256, .f32⟩
  | 73 => ⟨S16384x1, .i1⟩
  | 74 => ⟨S_, .f32⟩
  | 75 => ⟨S_, .f32⟩
  | 76 => ⟨S16384x256, .i1⟩
  | 77 => ⟨S16384x256, .f32⟩
  | 78 => ⟨S16384x256, .f32⟩
  | 79 => ⟨S512x32x256, .f32⟩
  | 80 => ⟨S512x32x256, .f32⟩
  | 81 => ⟨S2560x7, .f32⟩
  | 82 => ⟨S2560, .i1⟩
  | 83 => ⟨S2560x256, .f32⟩
  | 84 => ⟨S1x256, .f32⟩
  | 85 => ⟨S2560x256, .f32⟩
  | 86 => ⟨S2560x256, .f32⟩
  | 87 => ⟨S2560x1, .i1⟩
  | 88 => ⟨S_, .f32⟩
  | 89 => ⟨S_, .f32⟩
  | 90 => ⟨S2560x256, .i1⟩
  | 91 => ⟨S2560x256, .f32⟩
  | 92 => ⟨S2560x256, .f32⟩
  | 93 => ⟨S512x5x256, .f32⟩
  | 94 => ⟨S512x5x256, .f32⟩
  | 95 => ⟨S35840x7, .f32⟩
  | 96 => ⟨S35840, .i1⟩
  | 97 => ⟨S35840x256, .f32⟩
  | 98 => ⟨S1x256, .f32⟩
  | 99 => ⟨S35840x256, .f32⟩
  | 100 => ⟨S35840x256, .f32⟩
  | 101 => ⟨S35840x1, .i1⟩
  | 102 => ⟨S_, .f32⟩
  | 103 => ⟨S_, .f32⟩
  | 104 => ⟨S35840x256, .i1⟩
  | 105 => ⟨S35840x256, .f32⟩
  | 106 => ⟨S35840x256, .f32⟩
  | 107 => ⟨S512x70x256, .f32⟩
  | 108 => ⟨S512x70x256, .f32⟩
  | 109 => ⟨S512x25x240, .f32⟩
  | 110 => ⟨S512x25x256, .f32⟩
  | 111 => ⟨S1x1x256, .f32⟩
  | 112 => ⟨S512x25x256, .f32⟩
  | 113 => ⟨S512x25x256, .f32⟩
  | 114 => ⟨S512x25x256, .f32⟩
  | 115 => ⟨S_, .f32⟩
  | 116 => ⟨S512x256, .f32⟩
  | 117 => ⟨S_, .f32⟩
  | 118 => ⟨S512x256, .f32⟩
  | 119 => ⟨S512x256, .f32⟩
  | 120 => ⟨S512x37x256, .f32⟩
  | 121 => ⟨S512x32, .i1⟩
  | 122 => ⟨S512x5, .i1⟩
  | 123 => ⟨S512x37, .i1⟩
  | 124 => ⟨S512x70, .i1⟩
  | _ => ⟨S512x32x21x11, .f32⟩

abbrev hbmTy (i : Nat) : BufTy := match i / 128 with
  | 0 => hbmTy0_0 i
  | 1 => hbmTy0_1 i
  | _ => ⟨S512x32x21x11, .f32⟩

abbrev bufTy : (tb : Table) → Fin (tcTables nBuf tb) → BufTy
  | .hbm, ⟨i, _⟩ => hbmTy i
  | _, _ => ⟨S512x32x21x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_cst_1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_2 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_1 : Ref sig .tc := ⟨.hbm, 43, rfl⟩
abbrev main_call0_v5 : Ref sig .tc := ⟨.hbm, 44, rfl⟩
abbrev main_call0_v6 : Ref sig .tc := ⟨.hbm, 45, rfl⟩
abbrev main_call0_c_2 : Ref sig .tc := ⟨.hbm, 46, rfl⟩
abbrev main_call0_v7 : Ref sig .tc := ⟨.hbm, 47, rfl⟩
abbrev main_call0_v8 : Ref sig .tc := ⟨.hbm, 48, rfl⟩
abbrev main_call0_c_3 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_cst_3 : Ref sig .tc := ⟨.hbm, 89, rfl⟩
abbrev main_v21 : Ref sig .tc := ⟨.hbm, 90, rfl⟩
abbrev main_cst_4 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_cst_5 : Ref sig .tc := ⟨.hbm, 100, rfl⟩
abbrev main_v30 : Ref sig .tc := ⟨.hbm, 101, rfl⟩
abbrev main_cst_6 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_cst_7 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_c_8 : Ref sig .tc := ⟨.hbm, 112, rfl⟩
abbrev main_call2_v0 : Ref sig .tc := ⟨.hbm, 113, rfl⟩
abbrev main_call2_c : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_c_1 : Ref sig .tc := ⟨.hbm, 120, rfl⟩
abbrev main_call2_v5 : Ref sig .tc := ⟨.hbm, 121, rfl⟩
abbrev main_call2_v6 : Ref sig .tc := ⟨.hbm, 122, rfl⟩
abbrev main_call2_c_2 : Ref sig .tc := ⟨.hbm, 123, rfl⟩
abbrev main_call2_v7 : Ref sig .tc := ⟨.hbm, 124, rfl⟩
abbrev main_call2_v8 : Ref sig .tc := ⟨.hbm, 125, rfl⟩
abbrev main_call2_c_3 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_v12 : Ref sig .tc := ⟨.hbm, 130, rfl⟩
abbrev main_call2_v13 : Ref sig .tc := ⟨.hbm, 131, rfl⟩
abbrev main_call2_v14 : Ref sig .tc := ⟨.hbm, 132, rfl⟩
abbrev main_v39 : Ref sig .tc := ⟨.hbm, 133, rfl⟩
abbrev main_v40 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_call3_v0 : Ref sig .tc := ⟨.hbm, 139, rfl⟩
abbrev main_call3_v1 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_call4_c : Ref sig .tc := ⟨.hbm, 148, rfl⟩
abbrev main_call4_v0 : Ref sig .tc := ⟨.hbm, 149, rfl⟩
abbrev main_call4_v1 : Ref sig .tc := ⟨.hbm, 150, rfl⟩
abbrev main_call4_c_0 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_call4_v5 : Ref sig .tc := ⟨.hbm, 155, rfl⟩
abbrev main_call4_c_1 : Ref sig .tc := ⟨.hbm, 156, rfl⟩
abbrev main_call4_c_2 : Ref sig .tc := ⟨.hbm, 157, rfl⟩
abbrev main_call4_v6 : Ref sig .tc := ⟨.hbm, 158, rfl⟩
abbrev main_call4_v7 : Ref sig .tc := ⟨.hbm, 159, rfl⟩
abbrev main_call4_v8 : Ref sig .tc := ⟨.hbm, 160, rfl⟩
abbrev main_call4_v9 : Ref sig .tc := ⟨.hbm, 161, rfl⟩
abbrev main_call4_v10 : Ref sig .tc := ⟨.hbm, 162, rfl⟩
abbrev main_call4_v11 : Ref sig .tc := ⟨.hbm, 163, rfl⟩
abbrev main_call4_c_3 : Ref sig .tc := ⟨.hbm, 164, rfl⟩
abbrev main_call4_v12 : Ref sig .tc := ⟨.hbm, 165, rfl⟩
abbrev main_call4_v13 : Ref sig .tc := ⟨.hbm, 166, rfl⟩
abbrev main_call4_v14 : Ref sig .tc := ⟨.hbm, 167, rfl⟩
abbrev main_call4_cst : Ref sig .tc := ⟨.hbm, 168, rfl⟩
abbrev main_call4_v15 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_v61 : Ref sig .tc := ⟨.hbm, 179, rfl⟩
abbrev main_v62 : Ref sig .tc := ⟨.hbm, 180, rfl⟩
abbrev main_v63 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_v69 : Ref sig .tc := ⟨.hbm, 187, rfl⟩
abbrev main_v70 : Ref sig .tc := ⟨.hbm, 188, rfl⟩
abbrev main_v71 : Ref sig .tc := ⟨.hbm, 189, rfl⟩
abbrev main_v72 : Ref sig .tc := ⟨.hbm, 190, rfl⟩
abbrev main_call5_v0 : Ref sig .tc := ⟨.hbm, 191, rfl⟩
abbrev main_call5_cst : Ref sig .tc := ⟨.hbm, 192, rfl⟩
abbrev main_call5_v1 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_cst_9 : Ref sig .tc := ⟨.hbm, 202, rfl⟩
abbrev main_call6_v0 : Ref sig .tc := ⟨.hbm, 203, rfl⟩
abbrev main_call6_v1 : Ref sig .tc := ⟨.hbm, 204, rfl⟩
abbrev main_call6_v2 : Ref sig .tc := ⟨.hbm, 205, rfl⟩
abbrev main_v81 : Ref sig .tc := ⟨.hbm, 206, rfl⟩
abbrev main_v82 : Ref sig .tc := ⟨.hbm, 207, rfl⟩
abbrev main_v83 : Ref sig .tc := ⟨.hbm, 208, rfl⟩
abbrev main_v84 : Ref sig .tc := ⟨.hbm, 209, rfl⟩
abbrev main_v85 : Ref sig .tc := ⟨.hbm, 210, rfl⟩
abbrev main_v86 : Ref sig .tc := ⟨.hbm, 211, rfl⟩
abbrev main_v87 : Ref sig .tc := ⟨.hbm, 212, rfl⟩
abbrev main_v88 : Ref sig .tc := ⟨.hbm, 213, rfl⟩
abbrev main_v89 : Ref sig .tc := ⟨.hbm, 214, rfl⟩
abbrev main_v90 : Ref sig .tc := ⟨.hbm, 215, rfl⟩
abbrev main_cst_10 : Ref sig .tc := ⟨.hbm, 216, rfl⟩
abbrev main_call7_v0 : Ref sig .tc := ⟨.hbm, 217, rfl⟩
abbrev main_call7_v1 : Ref sig .tc := ⟨.hbm, 218, rfl⟩
abbrev main_call7_v2 : Ref sig .tc := ⟨.hbm, 219, rfl⟩
abbrev main_v91 : Ref sig .tc := ⟨.hbm, 220, rfl⟩
abbrev main_v92 : Ref sig .tc := ⟨.hbm, 221, rfl⟩
abbrev main_v93 : Ref sig .tc := ⟨.hbm, 222, rfl⟩
abbrev main_v94 : Ref sig .tc := ⟨.hbm, 223, rfl⟩
abbrev main_v95 : Ref sig .tc := ⟨.hbm, 224, rfl⟩
abbrev main_v96 : Ref sig .tc := ⟨.hbm, 225, rfl⟩
abbrev main_v97 : Ref sig .tc := ⟨.hbm, 226, rfl⟩
abbrev main_v98 : Ref sig .tc := ⟨.hbm, 227, rfl⟩
abbrev main_v99 : Ref sig .tc := ⟨.hbm, 228, rfl⟩
abbrev main_v100 : Ref sig .tc := ⟨.hbm, 229, rfl⟩
abbrev main_cst_11 : Ref sig .tc := ⟨.hbm, 230, rfl⟩
abbrev main_call8_v0 : Ref sig .tc := ⟨.hbm, 231, rfl⟩
abbrev main_call8_v1 : Ref sig .tc := ⟨.hbm, 232, rfl⟩
abbrev main_call8_v2 : Ref sig .tc := ⟨.hbm, 233, rfl⟩
abbrev main_v101 : Ref sig .tc := ⟨.hbm, 234, rfl⟩
abbrev main_v102 : Ref sig .tc := ⟨.hbm, 235, rfl⟩
abbrev main_v103 : Ref sig .tc := ⟨.hbm, 236, rfl⟩
abbrev main_v104 : Ref sig .tc := ⟨.hbm, 237, rfl⟩
abbrev main_v105 : Ref sig .tc := ⟨.hbm, 238, rfl⟩
abbrev main_v106 : Ref sig .tc := ⟨.hbm, 239, rfl⟩
abbrev main_v107 : Ref sig .tc := ⟨.hbm, 240, rfl⟩
abbrev main_v108 : Ref sig .tc := ⟨.hbm, 241, rfl⟩
abbrev main_v109 : Ref sig .tc := ⟨.hbm, 242, rfl⟩
abbrev main_cst_12 : Ref sig .tc := ⟨.hbm, 243, rfl⟩
abbrev main_v110 : Ref sig .tc := ⟨.hbm, 244, rfl⟩
abbrev main_cst_13 : Ref sig .tc := ⟨.hbm, 245, rfl⟩
abbrev main_v111 : Ref sig .tc := ⟨.hbm, 246, rfl⟩
abbrev main_v112 : Ref sig .tc := ⟨.hbm, 247, rfl⟩
abbrev main_v113 : Ref sig .tc := ⟨.hbm, 248, rfl⟩
abbrev main_v114 : Ref sig .tc := ⟨.hbm, 249, rfl⟩
abbrev main_v115 : Ref sig .tc := ⟨.hbm, 250, rfl⟩
abbrev main_v116 : Ref sig .tc := ⟨.hbm, 251, rfl⟩
abbrev main_v117 : Ref sig .tc := ⟨.hbm, 252, rfl⟩

abbrev nD : Nat := 1
abbrev τ : Topo := Topo.v7x

variable {F : FTy → Type} [FloatOps F]
-- ==== Proof.BodyKernel.lean ====
/- The run of the kernel, with nothing stated of what its outputs hold: the data of the pipeline, the body's
   obligation at every point, and the frame claim. The statements are those of the launch set-up for this program. -/
module

public import proofs.«01_k».proof.Proof.Gen.Kernel.Frame.RunA
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (20, 21, 22, 23, 24, 25, 26): nothing reads what the kernel leaves in them, so nothing
    of it is named (Lib/Pipeline/Dat.lean `Dat.toRForget`). -/
def forgets0 : Fin 27 → Bool := fun w => w.val == 20 || w.val == 21 || w.val == 22 || w.val == 23 || w.val == 24 || w.val == 25 || w.val == 26

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨_ + 27, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _, _; isplitr; swap; · iexact H20
    ipureintro; rfl
  isplitl [H21]
  · unfold owns; iexists _, _; isplitr; swap; · iexact H21
    ipureintro; rfl
  isplitl [H22]
  · unfold owns; iexists _, _; isplitr; swap; · iexact H22
    ipureintro; rfl
  isplitl [H23]
  · unfold owns; iexists _, _; isplitr; swap; · iexact H23
    ipureintro; rfl
  isplitl [H24]
  · unfold owns; iexists _, _; isplitr; swap; · iexact H24
    ipureintro; rfl
  isplitl [H25]
  · unfold owns; iexists _, _; isplitr; swap; · iexact H25
    ipureintro; rfl
  unfold owns; iexists _, _; isplitr; swap; · iexact H26
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- The buffers that the operations after the region write. -/
def T0 : Finset (Ref sig .tc) := {main_cst_3, main_cst_4, main_v43, main_v44, main_v45, main_v46, main_v47, main_v48, main_v49, main_v50}

/-- Those operations write no other buffer. -/
theorem sfx_writes : ∀ ops ∈ ([hostOps1] : List (List (HloOp τ sig (Elt F)))), ∀ op ∈ ops,
    ∀ b : Ref sig .tc, Proc.devRef .tc b ∈ op.writes → b ∈ T0 := by
  intro ops hops op hop b hb
  obtain rfl := List.mem_singleton.mp hops
  simp only [hostOps1, List.mem_cons, List.mem_nil_iff, or_false] at hop
  rcases hop with rfl | rfl | rfl | rfl | rfl | rfl | rfl | rfl | rfl | rfl
  all_goals
    simp only [StableHlo.nullary_writes, StableHlo.unary_writes, StableHlo.binary_writes, StableHlo.reshape_writes, StableHlo.nary_writes, Finset.mem_singleton] at hb
    cases Proc.devRef_injective _ hb
    decide

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 20, 21, 22, 23, 24, 25, 26) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

set_option maxHeartbeats 1620000 in
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => by
    have arr := fun w hw v (hV : V m c (Pipeline.arrRef spec0 w) = v) =>
      (Pipeline.RDat.FramePostR.arr_in h c w hw).trans ((A_eq m c w).trans hV)
    have rest := fun b hb hT v (hV : V m c b = v) => ((h c).2 b (Finset.mem_sdiff.mpr ⟨hb, hT⟩)).trans hV
    exact ⟨rest main_arg0 (Pipeline.mem_restRefs_of main_arg0 (by decide) (by decide)) (by decide) _ (V_main_arg0 m c),
      rest main_arg1 (Pipeline.mem_restRefs_of main_arg1 (by decide) (by decide)) (by decide) _ (V_main_arg1 m c),
      rest main_arg2 (Pipeline.mem_restRefs_of main_arg2 (by decide) (by decide)) (by decide) _ (V_main_arg2 m c),
      rest main_arg3 (Pipeline.mem_restRefs_of main_arg3 (by decide) (by decide)) (by decide) _ (V_main_arg3 m c),
      rest main_arg4 (Pipeline.mem_restRefs_of main_arg4 (by decide) (by decide)) (by decide) _ (V_main_arg4 m c),
      rest main_arg5 (Pipeline.mem_restRefs_of main_arg5 (by decide) (by decide)) (by decide) _ (V_main_arg5 m c),
      arr 7 rfl _ (V_main_arg6 m c),
      rest main_arg7 (Pipeline.mem_restRefs_of main_arg7 (by decide) (by decide)) (by decide) _ (V_main_arg7 m c),
      arr 9 rfl _ (V_main_arg8 m c),
      arr 10 rfl _ (V_main_arg9 m c),
      rest main_arg10 (Pipeline.mem_restRefs_of main_arg10 (by decide) (by decide)) (by decide) _ (V_main_arg10 m c),
      arr 12 rfl _ (V_main_arg11 m c),
      rest main_arg12 (Pipeline.mem_restRefs_of main_arg12 (by decide) (by decide)) (by decide) _ (V_main_arg12 m c),
      rest main_arg13 (Pipeline.mem_restRefs_of main_arg13 (by decide) (by decide)) (by decide) _ (V_main_arg13 m c),
      rest main_arg14 (Pipeline.mem_restRefs_of main_arg14 (by decide) (by decide)) (by decide) _ (V_main_arg14 m c),
      rest main_arg15 (Pipeline.mem_restRefs_of main_arg15 (by decide) (by decide)) (by decide) _ (V_main_arg15 m c),
      arr 15 rfl _ (V_main_arg16 m c),
      arr 16 rfl _ (V_main_arg17 m c),
      rest main_arg18 (Pipeline.mem_restRefs_of main_arg18 (by decide) (by decide)) (by decide) _ (V_main_arg18 m c),
      arr 18 rfl _ (V_main_arg19 m c),
      rest main_arg20 (Pipeline.mem_restRefs_of main_arg20 (by decide) (by decide)) (by decide) _ (V_main_arg20 m c)⟩) (run_main m ρ)

/-- THE FRAME: `Cert.quiescent_Kernel`'s statement (Defs.lean) at any `F`, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.Kernel.Gen

end
-- ==== Proof.Maths.lean ====
/- Facts about numbers, machine words and one kind of table look-up, used on both sides of the value claim.
   Nothing here mentions either program. -/
module

public import Idealize.ShloMosaic.Lib.Pointwise
public import Idealize.ShloMosaic.Lib.WordCmp
public import Idealize.ShloMosaic.Lib.Affine
public import Idealize.ShloMosaic.Lib.Routing.Words
public import Idealize.ShloMosaic.Lib.Pipeline.ValueKit

@[expose] public section

set_option maxRecDepth 16384

noncomputable section

open Idealize.ShloMosaic Idealize.ShloMosaic.TcCoe Idealize.SL.Sem

namespace Cert.Tokens

/-! ## Words -/

/-- A word is fixed by its value read as a signed integer: one below `2 ^ 31` that is not negative is the word of
    that natural number. -/
theorem word_of_toInt {w : BitVec 32} {a : ℕ} (ha : a < 2 ^ 31) (h : w.toInt = a) : w = BitVec.ofNat 32 a := by
  apply BitVec.eq_of_toInt_eq
  rw [h, BitVec.toInt_eq_toNat_cond, BitVec.toNat_ofNat]
  split_ifs <;> omega

/-- A natural number below `2 ^ 31`, made a word and read as a signed integer, is itself. -/
theorem toInt_word {a : ℕ} (ha : a < 2 ^ 31) : (BitVec.ofNat 32 a).toInt = a := by
  rw [BitVec.toInt_eq_toNat_cond, BitVec.toNat_ofNat]
  split_ifs <;> omega

/-- The truncated remainder of `v` by `n`, moved into `[0, n)`: the shape in which the floor remainder of signed words
    is computed. `s` is the sign bit of the divisor, which is not set. -/
theorem floor_rem_word {n : ℕ} (u : ArithUnit) (v : BitVec 32) (h0 : 0 < n) (hn : n < 2 ^ 30) (c : BitVec 1)
    (hc : c = IntOp.cmpi .slt (IntOp.remsi u v (BitVec.ofNat 32 n)) 0#32) :
    Scalar.select (IntOp.andi c (IntOp.cmpi .ne (IntOp.remsi u v (BitVec.ofNat 32 n)) 0#32))
        (IntOp.addi (IntOp.remsi u v (BitVec.ofNat 32 n)) (BitVec.ofNat 32 n)) (IntOp.remsi u v (BitVec.ofNat 32 n))
      = BitVec.ofNat 32 (v.toInt % n).toNat := by
  have hnI : (BitVec.ofNat 32 n).toInt = n := toInt_word (by omega)
  have hR : (IntOp.remsi u v (BitVec.ofNat 32 n)).toInt = v.toInt.tmod n := by
    rw [IntOp.remsi_of_pos u (by omega), BitVec.toInt_srem, hnI]
  have hlt : (v.toInt.tmod n).natAbs < n := by
    rw [Int.natAbs_tmod]; exact Nat.mod_lt _ (by simpa using h0)
  have hnn : 0 ≤ v.toInt % n := Int.emod_nonneg _ (by omega)
  have hlt' : v.toInt % n < n := Int.emod_lt_of_pos _ (by omega)
  generalize hr : IntOp.remsi u v (BitVec.ofNat 32 n) = R at *
  have key : (v.toInt % n) = if R.toInt < 0 then R.toInt + n else R.toInt := by
    rw [hR]
    have h1 := Int.tmod_eq_emod (a := v.toInt) (b := (n : ℤ))
    split_ifs with hneg
    · rw [h1] at hneg ⊢; split_ifs at hneg ⊢ <;> simp at * <;> omega
    · rw [h1] at hneg ⊢; split_ifs at hneg ⊢ <;> simp at * <;> omega
  apply word_of_toInt (by omega)
  rw [Int.toNat_of_nonneg hnn, key]
  unfold Scalar.select
  by_cases hneg : R.toInt < 0
  · have hne : R ≠ 0#32 := by rintro rfl; simp at hneg
    rw [if_pos hneg, if_pos]
    · show (R + BitVec.ofNat 32 n).toInt = _
      rw [BitVec.toInt_add, hnI, Int.bmod_def]
      split_ifs <;> omega
    · exact IntOp.andi_eq_one.mpr ⟨hc.trans (IntOp.cmpi_slt.mpr (by simpa using hneg)), IntOp.cmpi_ne.mpr hne⟩
  · rw [if_neg hneg, if_neg]
    intro h
    have h1 := (IntOp.andi_eq_one.mp h).1
    rw [hc] at h1
    exact hneg (by simpa using IntOp.cmpi_slt.mp h1)

/-- The quotient of a position below 800 by 25, computed on words with the correction that rounds it down: no correction
    is ever made. -/
theorem group_word : ∀ x : Fin 800,
    Scalar.select (IntOp.andi
        (IntOp.cmpi .ne
          (IntOp.subi (BitVec.setWidth 32 (IntOp.cmpi .sgt (BitVec.ofNat 32 x.val) 0#32))
            (BitVec.setWidth 32 (IntOp.cmpi .slt (BitVec.ofNat 32 x.val) 0#32)))
          (1#32))
        (IntOp.cmpi .ne (IntOp.remsi ArithUnit.vector (BitVec.ofNat 32 x.val) 25#32) 0#32))
      (IntOp.subi (IntOp.divsi ArithUnit.vector (BitVec.ofNat 32 x.val) 25#32) 1#32)
      (IntOp.divsi ArithUnit.vector (BitVec.ofNat 32 x.val) 25#32)
    = BitVec.ofNat 32 (x.val / 25) := by decide +kernel

/-- The conjunction over a finite set of one-bit words that are all set is set. -/
theorem fold_andi_one {ι : Type} (s : Finset ι) (f : ι → BitVec 1) (h : ∀ x, f x = 1#1) :
    Finset.fold IntOp.andi (1#1) f s = 1#1 := by
  classical
  induction s using Finset.induction with
  | empty => exact Finset.fold_empty
  | insert a s ha ih => rw [Finset.fold_insert ha, ih, h]; rfl

/-! ## The class of a feature -/

/-- The class, among `n`, of a feature `x`: the integer part of `997 |x|`, as a 32-bit word, modulo `n`. -/
def cls (n : ℕ) (x : EReal) : ℕ :=
  ((FloatOps.fptosi (F := Ideal) (φ := FTy.f32) 32
    (FloatOps.absf (F := Ideal) (φ := FTy.f32) x * Ideal.ofBits FTy.f32 0x44794000#32)).toInt % n).toNat

theorem cls_lt {n : ℕ} (h : 0 < n) (x : EReal) : cls n x < n := by
  unfold cls
  have := Int.emod_nonneg (FloatOps.fptosi (F := Ideal) (φ := FTy.f32) 32
    (FloatOps.absf (F := Ideal) (φ := FTy.f32) x * Ideal.ofBits FTy.f32 0x44794000#32)).toInt (b := n) (by omega)
  have := Int.emod_lt_of_pos (FloatOps.fptosi (F := Ideal) (φ := FTy.f32) 32
    (FloatOps.absf (F := Ideal) (φ := FTy.f32) x * Ideal.ofBits FTy.f32 0x44794000#32)).toInt (b := n) (by omega)
  omega

theorem number_one : (FloatOps.sitofp (F := Ideal) FTy.f32 (BitVec.setWidth 32 1#1) : EReal) = 1 := by
  show (((BitVec.setWidth 32 1#1).toInt : ℝ) : EReal) = 1
  simp

theorem number_zero : (FloatOps.sitofp (F := Ideal) FTy.f32 (BitVec.setWidth 32 0#1) : EReal) = 0 := by
  show (((BitVec.setWidth 32 0#1).toInt : ℝ) : EReal) = 0
  simp

/-- A one-bit comparison of two small words, widened and made a number: one where they are equal and zero elsewhere. -/
theorem indicator {a k : ℕ} (ha : a < 2 ^ 32) (hk : k < 2 ^ 32) :
    (FloatOps.sitofp (F := Ideal) FTy.f32 (BitVec.setWidth 32 (IntOp.cmpi .eq (BitVec.ofNat 32 a) (BitVec.ofNat 32 k))) : EReal)
      = if a = k then 1 else 0 := by
  by_cases h : a = k
  · subst h
    rw [if_pos rfl, IntOp.cmpi_eq.mpr rfl]
    exact number_one
  · have : IntOp.cmpi .eq (BitVec.ofNat 32 a) (BitVec.ofNat 32 k) = 0#1 := by
      have h1 : ¬ IntOp.cmpi .eq (BitVec.ofNat 32 a) (BitVec.ofNat 32 k) = 1#1 := fun e => by
        have := congrArg BitVec.toNat (IntOp.cmpi_eq.mp e)
        simp only [BitVec.toNat_ofNat, Nat.mod_eq_of_lt ha, Nat.mod_eq_of_lt hk] at this
        exact h this
      revert h1
      generalize IntOp.cmpi .eq (BitVec.ofNat 32 a) (BitVec.ofNat 32 k) = b
      revert b; decide
    rw [if_neg h, this]
    exact number_zero

/-- A sum against the indicator of one class picks that class's entry. -/
theorem sum_indicator {n a : ℕ} (ha : a < n) (hn : n < 2 ^ 32) (e : Fin n → EReal) :
    ∑ k : Fin n, (FloatOps.sitofp (F := Ideal) FTy.f32
        (BitVec.setWidth 32 (IntOp.cmpi .eq (BitVec.ofNat 32 a) (BitVec.ofNat 32 k.val))) : EReal) * e k
      = e ⟨a, ha⟩ := by
  rw [Finset.sum_eq_single (⟨a, ha⟩ : Fin n)]
  · rw [indicator (by omega) (by show a < _; omega), if_pos rfl, one_mul]
  · intro k _ hk
    rw [indicator (by omega) (by have := k.isLt; omega), if_neg, zero_mul]
    intro h; exact hk (Fin.ext h.symm)
  · intro h; exact absurd (Finset.mem_univ _) h

/-! ## Valid rows -/

/-- The magnitude of an ideal number is not negative. -/
theorem absf_nonneg (x : EReal) : (0 : EReal) ≤ FloatOps.absf (F := Ideal) (φ := FTy.f32) x := by
  show (0 : EReal) ≤ max x (-x)
  rcases le_total 0 x with h | h
  · exact le_max_of_le_left h
  · exact le_max_of_le_right (EReal.neg_nonneg.mpr h)

/-- A row's mass is positive exactly where it is not zero. -/
theorem mass_pos {ι : Type} [Fintype ι] (x : ι → EReal) :
    0 < ∑ k, FloatOps.absf (F := Ideal) (φ := FTy.f32) (x k) ↔ ¬ ∑ k, FloatOps.absf (F := Ideal) (φ := FTy.f32) (x k) = 0 :=
  ⟨fun h => h.ne', fun h => lt_of_le_of_ne (Finset.sum_nonneg fun k _ => absf_nonneg _) (Ne.symm h)⟩

/-- The number of a bit: one where the proposition holds and zero elsewhere. -/
theorem bit_number (p : Prop) [Decidable p] :
    (FloatOps.sitofp (F := Ideal) FTy.f32 (BitVec.setWidth 32 (BitVec.ofBool (decide p))) : EReal) = if p then 1 else 0 := by
  by_cases h : p
  · rw [if_pos h, decide_eq_true h]; exact number_one
  · rw [if_neg h, decide_eq_false h]; exact number_zero

/-! ## Sums -/

/-- A sum over an axis of `a * b` positions, read as `a` stretches of `b`. -/
theorem sum_split {a b n : ℕ} (hn : n = a * b) (f : Fin a → Fin b → EReal) :
    ∑ k : Fin n, f ⟨k.val / b, Nat.div_lt_of_lt_mul (lt_of_lt_of_eq k.isLt (hn.trans (Nat.mul_comm a b)))⟩
        ⟨k.val % b, Nat.mod_lt _ (by rcases Nat.eq_zero_or_pos b with h | h; · subst h; have := k.isLt; omega
                                     · exact h)⟩
      = ∑ i, ∑ j, f i j :=
  Fin.sum_divmod_congr (fun t _ _ => rfl) hn

/-- A finite sum of real numbers, read as an ideal number, is the sum of the ideal numbers. -/
theorem coe_sum {ι : Type} (s : Finset ι) (f : ι → ℝ) : ((∑ k ∈ s, f k : ℝ) : EReal) = ∑ k ∈ s, (f k : EReal) := by
  classical
  induction s using Finset.induction with
  | empty => simp
  | insert a s ha ih => rw [Finset.sum_insert ha, Finset.sum_insert ha, EReal.coe_add, ih]

/-- The squared difference does not depend on the order. -/
theorem sq_sub_comm (a b : EReal) : (a - b) * (a - b) = (b - a) * (b - a) := by
  induction a using EReal.rec <;> induction b using EReal.rec <;>
    simp_all [← EReal.coe_sub, ← EReal.coe_mul]
  ring

/-- The mean of hyperbolic tangents: adding up, over all the rows, those of one group of 25 weighted by `1/25` is adding
    up that group and dividing by 25. -/
theorem group_mean (g : Fin 800 → EReal) (r : Fin 32) :
    ∑ x : Fin 800, (if x.val / 25 = r.val then (1 : EReal) else 0) * ((25⁻¹ : ℝ) : EReal) * Ideal.tanh (g x)
      = Ideal.div (∑ s : Fin 25, Ideal.tanh (g ⟨r.val * 25 + s.val, by omega⟩)) ((25 : ℝ) : EReal) := by
  have hth : ∀ y : EReal, ∃ z : ℝ, Ideal.tanh y = (z : EReal) := fun y => by
    induction y using EReal.rec
    · exact ⟨-1, by simp⟩
    · exact ⟨_, rfl⟩
    · exact ⟨1, by simp⟩
  choose f hf using hth
  simp only [hf]
  rw [Ideal.div_coe (by norm_num)]
  have h1 : ∑ x : Fin 800, (if x.val / 25 = r.val then (1 : EReal) else 0) * ((25⁻¹ : ℝ) : EReal) * (f (g x) : EReal)
      = ((∑ x : Fin 800, (if x.val / 25 = r.val then 25⁻¹ * f (g x) else 0) : ℝ) : EReal) := by
    rw [coe_sum]
    refine Finset.sum_congr rfl fun x _ => ?_
    split_ifs <;> simp
  rw [h1, ← coe_sum, ← EReal.coe_mul]
  congr 1
  have h2 : ∑ i : Fin 32, ∑ s : Fin 25, (if i = r then 25⁻¹ * f (g ⟨i.val * 25 + s.val, by omega⟩) else (0 : ℝ))
      = ∑ x : Fin 800, (if x.val / 25 = r.val then 25⁻¹ * f (g x) else 0) := by
    refine Fin.sum_mul_add_congr (fun i s hl => ?_)
    have : (i.val * 25 + s.val) / 25 = i.val := by omega
    simp only [this, Fin.ext_iff]
  rw [← h2, Finset.sum_eq_single r, Finset.sum_mul]
  · refine Finset.sum_congr rfl fun s _ => ?_
    rw [if_pos rfl]; ring
  · intro i _ hi; simp [hi]
  · intro h; exact absurd (Finset.mem_univ _) h

/-! ## Rows of a table -/

section Rows
variable {α : Type}

/-- The dimension numbers of a look-up of whole rows of a table `[N, C]` at an array `[A, B, 1]` of row numbers. -/
abbrev rowDims (N A B C : ℕ)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The looked-up row, at a column: the table at the row number, read as a signed word and moved into `[0, N − 1]`. -/
theorem gather_row {N A B C : ℕ} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ 32) (a : Fin A) (b : Fin B) (h : Fin C) :
    Host.gather (rowDims N A B C wf) x idx (ix3 a b h)
      = x (ix2 ⟨min (idx (ix3 a b 0)).toInt.toNat (N - 1), by omega⟩ h) := by
  unfold Host.gather
  congr 1
  funext i
  refine Fin.ext ?_
  show (rowDims N A B C wf).start (ix3 a b h) idx i + (rowDims N A B C wf).batchCoord (ix3 a b h) i
      + (rowDims N A B C wf).offCoord (ix3 a b h) i = _
  rw [GatherDims.batchCoord_eq_zero _ _ _ List.not_mem_nil]
  match i with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N A B C wf).startIndexMap from List.mem_singleton.mpr rfl)]
    have hsi : (rowDims N A B C wf).siIdx (ix3 a b h) ⟨List.idxOf (0 : Fin 2) (rowDims N A B C wf).startIndexMap,
        List.idxOf_lt_length_iff.2 (List.mem_singleton.mpr rfl)⟩ = ix3 a b 0 := by
      funext c; refine Fin.ext ?_
      match c with
      | ⟨0, _⟩ => rfl
      | ⟨1, _⟩ => rfl
      | ⟨2, _⟩ => rfl
    erw [hsi]
    rfl
  | ⟨1, _⟩ =>
    unfold GatherDims.start
    rw [dif_neg (show ¬ (⟨1, by omega⟩ : Fin 2) ∈ (rowDims N A B C wf).startIndexMap by
      intro h; exact absurd (List.mem_singleton.mp h) (by simp))]
    simp only [Nat.add_zero, Nat.zero_add]
    rfl

end Rows

end Cert.Tokens
-- ==== Proof.Spec.lean ====
/- What the results hold, entry by entry, as functions of the argument arrays: the tokens of agents, static objects and
   lanes, the validity of each, the mean over the routes, and the distances between token positions. Both programs'
   results are shown to be these. -/
module

public import proofs.«01_k».proof.Proof.Maths

@[expose] public section

set_option maxRecDepth 16384

noncomputable section

open Idealize.ShloMosaic Idealize.ShloMosaic.TcCoe Idealize.SL.Sem

namespace Cert.Tokens

/-- The mass of a row: the sum of the magnitudes of its entries. -/
def mass {K : ℕ} (x : Fin K → EReal) : EReal := ∑ k, FloatOps.absf (F := Ideal) (φ := FTy.f32) (x k)

/-- One output of a linear layer with bias. -/
def affine {K : ℕ} (x w : Fin K → EReal) (b : EReal) : EReal := ∑ k, x k * w k + b

/-- The encoding of a token's position `y`, left out where the token's row `x` has no mass. -/
def posTerm {K : ℕ} (x : Fin K → EReal) (y p : Fin 7 → EReal) (q : EReal) : EReal :=
  if mass x = 0 then 0 else affine y p q

/-- An agent's token at one channel: `x` the agent's history of 21 steps of 11 features, `w`, `b` the channel's weights
    and bias, `e` the channel of the five type vectors, `p`, `q` the channel of the position layer. -/
def agentTok (x w : Fin 231 → EReal) (b : EReal) (e : Fin 5 → EReal) (p : Fin 7 → EReal) (q : EReal) : EReal :=
  affine x w b + e ⟨cls 5 (x ⟨230, by omega⟩), cls_lt (by omega) _⟩ + posTerm x (fun j => x ⟨220 + j.val, by omega⟩) p q

/-- A static object's token at one channel. -/
def staticTok (x w : Fin 10 → EReal) (b : EReal) (p : Fin 7 → EReal) (q : EReal) : EReal :=
  affine x w b + posTerm x (fun j => x ⟨j.val, by omega⟩) p q

/-- A lane's token at one channel: `x` the lane's 20 points of 12 features, `s` the speed-limit term, `e` the channel of
    the four traffic-light vectors. -/
def laneTok (x w : Fin 240 → EReal) (b s : EReal) (e : Fin 4 → EReal) (p : Fin 7 → EReal) (q : EReal) : EReal :=
  affine x w b + s + e ⟨cls 4 (x ⟨11, by omega⟩), cls_lt (by omega) _⟩
    + posTerm x (fun j => x ⟨120 + j.val, by omega⟩) p q

/-- The speed-limit term: the layer applied to the limit where there is one, and the vector for an unknown limit
    elsewhere. -/
def speed (has : BitVec 1) (s w b u : EReal) : EReal := if has = 1#1 then s * w + b else u

/-- The mean over 25 route segments of the hyperbolic tangent of a linear layer. -/
def routeMean (x : Fin 25 → Fin 240 → EReal) (w : Fin 240 → EReal) (b : EReal) : EReal :=
  Ideal.div (∑ s, Ideal.tanh (affine (x s) w b)) ((25 : ℝ) : EReal)

/-- The distance of two points of the plane. -/
def planeDist (x x' y y' : EReal) : EReal := Ideal.sqrt ((x - x') * (x - x') + (y - y') * (y - y'))

/-- A bit saying that a row has mass. -/
def hasMass {K : ℕ} (x : Fin K → EReal) : BitVec 1 := BitVec.ofBool (decide ¬mass x = 0)

/-! ## The rows of the argument arrays -/

/-- The type of an array of ideal numbers of the given extents. -/
abbrev Arr (n : ℕ) (d : Fin n → ℕ) := FVec Ideal ⟨n, d⟩ .f32

/-- Agent `l` of sample `b`: its 21 × 11 features in one row. -/
def agentRow (a : Arr 4 ![512, 32, 21, 11]) (b : Fin 512) (l : Fin 32) : Fin 231 → EReal :=
  fun k => a (ix4 b l ⟨k.val / 11, by omega⟩ ⟨k.val % 11, by omega⟩)

/-- Static object `l` of sample `b`. -/
def staticRow (a : Arr 3 ![512, 5, 10]) (b : Fin 512) (l : Fin 5) : Fin 10 → EReal := fun k => a (ix3 b l k)

/-- Lane (or route segment) `l` of sample `b`: its 20 × 12 features in one row. -/
def pointRow {L : ℕ} (a : Arr 4 ![512, L, 20, 12]) (b : Fin 512) (l : Fin L) : Fin 240 → EReal :=
  fun k => a (ix4 b l ⟨k.val / 12, by omega⟩ ⟨k.val % 12, by omega⟩)

/-- Channel `h` of a weight matrix. -/
def col {K : ℕ} (w : Arr 2 ![K, 256]) (h : Fin 256) : Fin K → EReal := fun k => w (ix2 k h)

/-! ## The results -/

/-- The first result: the tokens of the 32 agents and then those of the 5 static objects. -/
def encA (a0 : Arr 4 ![512, 32, 21, 11]) (a1 : Arr 3 ![512, 5, 10]) (a6 : Arr 2 ![231, 256]) (a7 : Arr 1 ![256])
    (a8 : Arr 2 ![5, 256]) (a9 : Arr 2 ![10, 256]) (a10 : Arr 1 ![256]) (a19 : Arr 2 ![7, 256]) (a20 : Arr 1 ![256])
    (b : Fin 512) (l : Fin 37) (h : Fin 256) : EReal :=
  if hl : l.val < 32 then
    agentTok (agentRow a0 b ⟨l.val, hl⟩) (col a6 h) (a7 (ix1 h)) (col a8 h) (col a19 h) (a20 (ix1 h))
  else staticTok (staticRow a1 b ⟨l.val - 32, by omega⟩) (col a9 h) (a10 (ix1 h)) (col a19 h) (a20 (ix1 h))

/-- The second result: the tokens of the 70 lanes. -/
def encL (a2 : Arr 4 ![512, 70, 20, 12]) (a3 : Arr 3 ![512, 70, 1]) (a4 : IVec ⟨3, ![512, 70, 1]⟩ 1)
    (a11 : Arr 2 ![240, 256]) (a12 : Arr 1 ![256]) (a13 : Arr 2 ![1, 256]) (a14 a15 : Arr 1 ![256])
    (a16 : Arr 2 ![4, 256]) (a19 : Arr 2 ![7, 256]) (a20 : Arr 1 ![256])
    (b : Fin 512) (l : Fin 70) (h : Fin 256) : EReal :=
  laneTok (pointRow a2 b l) (col a11 h) (a12 (ix1 h))
    (speed (a4 (ix3 b l 0)) (a3 (ix3 b l 0)) (a13 (ix2 0 h)) (a14 (ix1 h)) (a15 (ix1 h)))
    (col a16 h) (col a19 h) (a20 (ix1 h))

/-- The third result: which agents and static objects are present. -/
def maskA (a0 : Arr 4 ![512, 32, 21, 11]) (a1 : Arr 3 ![512, 5, 10]) (b : Fin 512) (l : Fin 37) : BitVec 1 :=
  if hl : l.val < 32 then hasMass (agentRow a0 b ⟨l.val, hl⟩) else hasMass (staticRow a1 b ⟨l.val - 32, by omega⟩)

/-- The fourth result: which lanes are present. -/
def maskL (a2 : Arr 4 ![512, 70, 20, 12]) (b : Fin 512) (l : Fin 70) : BitVec 1 := hasMass (pointRow a2 b l)

/-- The fifth result: the mean over a sample's route segments. -/
def cond (a5 : Arr 4 ![512, 25, 20, 12]) (a17 : Arr 2 ![240, 256]) (a18 : Arr 1 ![256]) (b : Fin 512) (h : Fin 256) :
    EReal :=
  routeMean (fun s => pointRow a5 b s) (col a17 h) (a18 (ix1 h))

/-- The fixed position of the vehicle itself. -/
def egoLoc (x : Fin 2) : EReal := if x.val = 0 then Ideal.ofBits .f32 0xBF000000#32 else Ideal.ofBits .f32 0x00000000#32

/-- Coordinate `x` of the position of token `i` of sample `b`: agents, static objects, lanes, the vehicle itself eight
    times, and the first ten agents again. -/
def loc (a0 : Arr 4 ![512, 32, 21, 11]) (a1 : Arr 3 ![512, 5, 10]) (a2 : Arr 4 ![512, 70, 20, 12])
    (b : Fin 512) (i : Fin 125) (x : Fin 2) : EReal :=
  if h1 : i.val < 32 then a0 (ix4 b ⟨i.val, h1⟩ 20 ⟨x.val, by omega⟩)
  else if h2 : i.val - 32 < 5 then a1 (ix3 b ⟨i.val - 32, h2⟩ ⟨x.val, by omega⟩)
  else if h3 : i.val - 37 < 70 then a2 (ix4 b ⟨i.val - 37, h3⟩ 10 ⟨x.val, by omega⟩)
  else if h4 : i.val - 107 < 8 then egoLoc x
  else a0 (ix4 b ⟨i.val - 115, by omega⟩ 20 ⟨x.val, by omega⟩)

/-- The sixth result: the distance between the positions of tokens `i` and `j`. -/
def tokenDist (a0 : Arr 4 ![512, 32, 21, 11]) (a1 : Arr 3 ![512, 5, 10]) (a2 : Arr 4 ![512, 70, 20, 12])
    (b : Fin 512) (i j : Fin 125) : EReal :=
  planeDist (loc a0 a1 a2 b i 0) (loc a0 a1 a2 b j 0) (loc a0 a1 a2 b i 1) (loc a0 a1 a2 b j 1)

/-! ## The mass of a row read along its two axes -/

/-- The mass of an agent's row is the sum over its steps of the sum over its features. -/
theorem mass_agentRow (a : Arr 4 ![512, 32, 21, 11]) (b : Fin 512) (l : Fin 32) :
    mass (agentRow a b l) = ∑ i : Fin 21, ∑ j : Fin 11, FloatOps.absf (F := Ideal) (φ := FTy.f32) (a (ix4 b l i j)) :=
  sum_split (a := 21) (b := 11) rfl fun i j => FloatOps.absf (F := Ideal) (φ := FTy.f32) (a (ix4 b l i j))

/-- The mass of a lane's row is the sum over its points of the sum over their features. -/
theorem mass_pointRow {L : ℕ} (a : Arr 4 ![512, L, 20, 12]) (b : Fin 512) (l : Fin L) :
    mass (pointRow a b l) = ∑ i : Fin 20, ∑ j : Fin 12, FloatOps.absf (F := Ideal) (φ := FTy.f32) (a (ix4 b l i j)) :=
  sum_split (a := 20) (b := 12) rfl fun i j => FloatOps.absf (F := Ideal) (φ := FTy.f32) (a (ix4 b l i j))

end Cert.Tokens
-- ==== Proof.Ref.lean ====
/- The reference's six results, entry by entry: each is the one the specification states (Spec.lean). -/
module

public import proofs.«01_k».proof.Proof.Spec
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Value
open Cert.ReferenceIdeal Cert.ReferenceIdeal.Gen Cert.Tokens

variable (V0 : Valuation τ sig (Elt Ideal))

/-- The bit "not equal to zero". -/
theorem not_bit (p : Prop) [Decidable p] : ~~~BitVec.ofBool (decide p) = BitVec.ofBool (decide ¬p) := by
  by_cases h : p <;> simp [h]

/-- A class word that is looked up is not negative, and is the last of its table at most. -/
theorem in_table {n a : ℕ} (hn : n < 2 ^ 31) (ha : a ≤ n) :
    IntOp.andi (IntOp.cmpi .sge (BitVec.ofNat 32 a) 0#32) (IntOp.cmpi .sle (BitVec.ofNat 32 a) (BitVec.ofNat 32 n)) = 1#1 :=
  IntOp.andi_eq_one.mpr ⟨IntOp.cmpi_sge.mpr (by rw [toInt_word (a := a) (by omega), BitVec.toInt_zero]; omega),
    IntOp.cmpi_sle.mpr (by rw [toInt_word (by omega), toInt_word (by omega)]; exact_mod_cast ha)⟩

/-- The step that adds the table's length to a negative row number leaves a class word alone. -/
theorem wrap_word {a : ℕ} (ha : a < 2 ^ 31) (z : BitVec 32) :
    Scalar.select (IntOp.cmpi .slt (BitVec.ofNat 32 a) 0#32) z (BitVec.ofNat 32 a) = BitVec.ofNat 32 a := by
  unfold Scalar.select
  rw [if_neg]
  intro h
  have := IntOp.cmpi_slt.mp h
  rw [toInt_word ha] at this
  simp only [BitVec.toInt_zero] at this
  omega

/-- The class of a feature as the reference computes the row number of its table: the floor remainder of the integer part,
    and the table's length added where that is negative. -/
theorem class_word {n : ℕ} (h0 : 0 < n) (hn : n < 2 ^ 30) (S : BitVec 32) (hS : S = BitVec.ofNat 32 n) (z : BitVec 1)
    (hz : z = 0#1) (f : BitVec 32 → BitVec 32) (x : EReal) (R W : BitVec 32)
    (hR : R = IntOp.remsi ArithUnit.host (FloatOps.fptosi (F := Ideal) (φ := FTy.f32) 32
      (FloatOps.absf (F := Ideal) (φ := FTy.f32) x * Ideal.ofBits FTy.f32 0x44794000#32)) S)
    (hW : W = Scalar.select (IntOp.andi (IntOp.cmpi .ne (IntOp.cmpi .slt R 0#32) z) (IntOp.cmpi .ne R 0#32))
      (IntOp.addi R S) R) :
    Scalar.select (IntOp.cmpi .slt W 0#32) (f W) W = BitVec.ofNat 32 (cls n x) := by
  subst hS hz hR
  have h := cls_lt h0 x
  rw [floor_rem_word ArithUnit.host _ h0 hn _ (by
    generalize IntOp.cmpi .slt _ _ = c; revert c; decide)] at hW
  rw [hW]
  exact wrap_word (lt_of_lt_of_le h (by omega)) _

/-- The row number looked up for an agent: the class of its last feature. -/
theorem agent_class (b : Fin 512) (l : Fin 32) (z : Fin 1) :
    (res_main_call1_v5 V0 : IVec S512x32x1 32) (ix3 b l z)
      = BitVec.ofNat 32 (cls 5 (agentRow (V0 (Proc.devRef .tc main_arg0)) b l ⟨230, by omega⟩)) := by
  pointwise [res_main_call1_v5, res_main_v10, res_main_call0_v4, res_main_call0_v2, res_main_call0_v0]
  exact class_word (n := 5) (by decide) (by decide) _ (by decide) _ (by decide) (fun W => IntOp.addi W 5#32) _ _ _ rfl rfl

/-- The row number looked up for a lane: the class of its first point's last feature. -/
theorem lane_class (b : Fin 512) (l : Fin 70) (z : Fin 1) :
    (res_main_call4_v5 V0 : IVec S512x70x1 32) (ix3 b l z)
      = BitVec.ofNat 32 (cls 4 (pointRow (V0 (Proc.devRef .tc main_arg2)) b l ⟨11, by omega⟩)) := by
  pointwise [res_main_call4_v5, res_main_v39, res_main_call2_v4, res_main_call2_v2, res_main_call2_v0]
  exact class_word (n := 4) (by decide) (by decide) _ (by decide) _ (by decide) (fun W => IntOp.addi W 4#32) _ _ _ rfl rfl

/-- The looked-up type vector of an agent. -/
theorem agent_row (b : Fin 512) (l : Fin 32) (h : Fin 256) (s : Finset (S512x32x1).Idx) (bad : EReal) :
    Scalar.select
        (Finset.fold IntOp.andi (1#1)
          (fun x => IntOp.andi (IntOp.cmpi CmpIPredicate.sge (res_main_call1_v5 V0 x) 0#32)
            (IntOp.cmpi CmpIPredicate.sle (res_main_call1_v5 V0 x) 4#32)) s)
        (Host.gather gather_S5x256_S512x32x1_S512x32x256_2_0_n_n_0_2_1256 (V0 (Proc.devRef .tc main_arg8))
          (res_main_call1_v5 V0) (ix3 b l h)) bad
      = col (V0 (Proc.devRef .tc main_arg8)) h
          ⟨cls 5 (agentRow (V0 (Proc.devRef .tc main_arg0)) b l ⟨230, by omega⟩), cls_lt (by omega) _⟩ := by
  rw [fold_andi_one]
  · show Host.gather _ _ _ _ = _
    erw [gather_row (N := 5) (A := 512) (B := 32) (C := 256) (by omega)]
    have hlt := cls_lt (n := 5) (by omega) (agentRow (V0 (Proc.devRef .tc main_arg0)) b l ⟨230, by omega⟩)
    unfold col
    congr 2
    apply Fin.ext
    show min _ _ = _
    rw [agent_class, toInt_word (by omega)]
    show min (cls 5 _) _ = cls 5 _
    omega
  · intro x
    obtain ⟨b', l', z', rfl⟩ : ∃ (b' : Fin 512) (l' : Fin 32) (z' : Fin 1), x = ix3 b' l' z' := ⟨x 0, x 1, x 2, by
      funext a; match a with | ⟨0, _⟩ => rfl | ⟨1, _⟩ => rfl | ⟨2, _⟩ => rfl⟩
    rw [agent_class]
    exact in_table (n := 4) (by omega) (by
      have := cls_lt (n := 5) (by omega) (agentRow (V0 (Proc.devRef .tc main_arg0)) b' l' ⟨230, by omega⟩); omega)

/-- The looked-up traffic-light vector of a lane. -/
theorem lane_row (b : Fin 512) (l : Fin 70) (h : Fin 256) (s : Finset (S512x70x1).Idx) (bad : EReal) :
    Scalar.select
        (Finset.fold IntOp.andi (1#1)
          (fun x => IntOp.andi (IntOp.cmpi CmpIPredicate.sge (res_main_call4_v5 V0 x) 0#32)
            (IntOp.cmpi CmpIPredicate.sle (res_main_call4_v5 V0 x) 3#32)) s)
        (Host.gather gather_S4x256_S512x70x1_S512x70x256_2_0_n_n_0_2_1256 (V0 (Proc.devRef .tc main_arg16))
          (res_main_call4_v5 V0) (ix3 b l h)) bad
      = col (V0 (Proc.devRef .tc main_arg16)) h
          ⟨cls 4 (pointRow (V0 (Proc.devRef .tc main_arg2)) b l ⟨11, by omega⟩), cls_lt (by omega) _⟩ := by
  rw [fold_andi_one]
  · show Host.gather _ _ _ _ = _
    erw [gather_row (N := 4) (A := 512) (B := 70) (C := 256) (by omega)]
    have hlt := cls_lt (n := 4) (by omega) (pointRow (V0 (Proc.devRef .tc main_arg2)) b l ⟨11, by omega⟩)
    unfold col
    congr 2
    apply Fin.ext
    show min _ _ = _
    rw [lane_class, toInt_word (by omega)]
    show min (cls 4 _) _ = cls 4 _
    omega
  · intro x
    obtain ⟨b', l', z', rfl⟩ : ∃ (b' : Fin 512) (l' : Fin 70) (z' : Fin 1), x = ix3 b' l' z' := ⟨x 0, x 1, x 2, by
      funext a; match a with | ⟨0, _⟩ => rfl | ⟨1, _⟩ => rfl | ⟨2, _⟩ => rfl⟩
    rw [lane_class]
    exact in_table (n := 3) (by omega) (by
      have := cls_lt (n := 4) (by omega) (pointRow (V0 (Proc.devRef .tc main_arg2)) b' l' ⟨11, by omega⟩); omega)

/-- The number zero, as the reference fills the positions of absent tokens with it. -/
theorem fill_zero : id (constant (F := Ideal) S_ FTy.f32 0#32) ix0 = (0 : EReal) := Ideal.ofBits_zero_f32

/-- The reference's first result is the tokens of agents and static objects. -/
theorem v113 (b : Fin 512) (l : Fin 37) (h : Fin 256) :
    (val3 V0 (Proc.devRef .tc main_v113) : FVec Ideal S512x37x256 .f32) (ix3 b l h)
      = encA (V0 (Proc.devRef .tc main_arg0)) (V0 (Proc.devRef .tc main_arg1)) (V0 (Proc.devRef .tc main_arg6))
          (V0 (Proc.devRef .tc main_arg7)) (V0 (Proc.devRef .tc main_arg8)) (V0 (Proc.devRef .tc main_arg9))
          (V0 (Proc.devRef .tc main_arg10)) (V0 (Proc.devRef .tc main_arg19)) (V0 (Proc.devRef .tc main_arg20)) b l h := by
  rw [val3_main_v113]
  pointwise [res_main_v3, res_main_v23]
  rw [fill_zero]
  unfold encA
  by_cases hl : l.val < 32
  · simp only [dif_pos hl]
    have e1 : (⟨(b.val * 32 + l.val) / 32, by omega⟩ : Fin 512) = b := Fin.ext (by show _ / 32 = _; omega)
    have e2 : (⟨(b.val * 32 + l.val) % 32, by omega⟩ : Fin 32) = ⟨l.val, hl⟩ := Fin.ext (by show (b.val * 32 + l.val) % 32 = l.val; omega)
    simp only [e1, e2]
    unfold agentTok
    refine congrArg₂ (· + ·) (congrArg₂ (· + ·) rfl (agent_row V0 b ⟨l.val, hl⟩ h _ _)) ?_
    unfold posTerm
    rw [mass_agentRow]
    congr 1
  · simp only [dif_neg hl]
    have e1 : (⟨(b.val * 5 + (l.val - 32)) % 5, by omega⟩ : Fin 5) = ⟨l.val - 32, by omega⟩ :=
      Fin.ext (by show (b.val * 5 + (l.val - 32)) % 5 = l.val - 32; omega)
    simp only [e1]
    rfl

/-- The reference's second result is the tokens of the lanes. -/
theorem v103 (b : Fin 512) (l : Fin 70) (h : Fin 256) :
    (val3 V0 (Proc.devRef .tc main_v103) : FVec Ideal S512x70x256 .f32) (ix3 b l h)
      = encL (V0 (Proc.devRef .tc main_arg2)) (V0 (Proc.devRef .tc main_arg3)) (V0 (Proc.devRef .tc main_arg4))
          (V0 (Proc.devRef .tc main_arg11)) (V0 (Proc.devRef .tc main_arg12)) (V0 (Proc.devRef .tc main_arg13))
          (V0 (Proc.devRef .tc main_arg14)) (V0 (Proc.devRef .tc main_arg15)) (V0 (Proc.devRef .tc main_arg16))
          (V0 (Proc.devRef .tc main_arg19)) (V0 (Proc.devRef .tc main_arg20)) b l h := by
  rw [val3_main_v103]
  pointwise [res_main_v32]
  rw [fill_zero, lane_row]
  unfold encL laneTok posTerm
  rw [mass_pointRow]
  congr 1
  · congr 2
    unfold speed Scalar.select
    simp only [Fin.sum_univ_one]
    rfl

/-- The reference's fourth result says which lanes are present. -/
theorem v117 (b : Fin 512) (l : Fin 70) :
    (val3 V0 (Proc.devRef .tc main_v117) : IVec S512x70 1) (ix2 b l) = maskL (V0 (Proc.devRef .tc main_arg2)) b l := by
  rw [val3_main_v117]
  pointwise [res_main_v32]
  rw [not_bit, maskL, hasMass, mass_pointRow]

/-- The reference's third result says which agents and static objects are present. -/
theorem v116 (b : Fin 512) (l : Fin 37) :
    (val3 V0 (Proc.devRef .tc main_v116) : IVec S512x37 1) (ix2 b l)
      = maskA (V0 (Proc.devRef .tc main_arg0)) (V0 (Proc.devRef .tc main_arg1)) b l := by
  rw [val3_main_v116]
  pointwise [res_main_v3, res_main_v23]
  unfold maskA
  by_cases hl : l.val < 32
  · simp only [dif_pos hl]
    rw [not_bit, hasMass, mass_agentRow]
  · simp only [dif_neg hl]
    rw [not_bit]; rfl

/-- The number 25, by its bit pattern. -/
theorem num25 : Ideal.ofBits FTy.f32 0x41C80000#32 = ((25 : ℝ) : EReal) := by
  simp [Ideal.ofBits, Ideal.ieee, -EReal.coe_mul]; norm_num

/-- The reference's fifth result is the mean over the routes. -/
theorem v112 (b : Fin 512) (h : Fin 256) :
    (val3 V0 (Proc.devRef .tc main_v112) : FVec Ideal S512x256 .f32) (ix2 b h)
      = cond (V0 (Proc.devRef .tc main_arg5)) (V0 (Proc.devRef .tc main_arg17)) (V0 (Proc.devRef .tc main_arg18)) b h := by
  rw [val3_main_v112]
  pointwise
  rw [num25]; rfl

/-- The fixed position of the vehicle, as the reference writes it down. -/
theorem ego_lit (x : Fin 2) : Ideal.ofBits FTy.f32 (lit0 (S2.rowMajor (ix1 x))) = egoLoc x := by
  have e : S2.rowMajor (ix1 x) = x := by
    match x with
    | ⟨0, _⟩ => exact (by decide : S2.rowMajor (ix1 ⟨0, by decide⟩) = ⟨0, by decide⟩)
    | ⟨1, _⟩ => exact (by decide : S2.rowMajor (ix1 ⟨1, by decide⟩) = ⟨1, by decide⟩)
  rw [e]
  unfold egoLoc
  match x with
  | ⟨0, _⟩ => rw [if_pos rfl]; rfl
  | ⟨1, _⟩ => rw [if_neg (by simp)]; rfl

/-- The reference's array of token positions. -/
theorem loc_ref (b : Fin 512) (i : Fin 125) (x : Fin 2) :
    (res_main_v67 V0 : FVec Ideal S512x125x2 .f32) (ix3 b i x)
      = loc (V0 (Proc.devRef .tc main_arg0)) (V0 (Proc.devRef .tc main_arg1)) (V0 (Proc.devRef .tc main_arg2)) b i x := by
  pointwise [res_main_v67]
  rw [ego_lit]
  rfl

/-- The reference's sixth result is the distances between tokens. -/
theorem v73 (b : Fin 512) (i j : Fin 125) :
    (val3 V0 (Proc.devRef .tc main_v73) : FVec Ideal S512x125x125 .f32) (ix3 b i j)
      = tokenDist (V0 (Proc.devRef .tc main_arg0)) (V0 (Proc.devRef .tc main_arg1)) (V0 (Proc.devRef .tc main_arg2)) b i j := by
  rw [val3_main_v73]
  pointwise [res_main_v72]
  simp only [loc_ref, Fin.sum_univ_two]
  unfold tokenDist planeDist
  rw [sq_sub_comm, sq_sub_comm (loc _ _ _ b j 1)]

end Cert.ReferenceIdeal.Value
-- ==== Proof.Pay.lean ====
/- What the kernel's body computes from its blocks, entry by entry. -/
module

public import proofs.«01_k».proof.Proof.Spec
public import proofs.«01_k».proof.Proof.Gen.KernelIdeal.Skeleton

@[expose] public section

set_option maxRecDepth 16384

noncomputable section

open Idealize.ShloMosaic Idealize.ShloMosaic.TcCoe Idealize.SL.Sem

namespace Cert.KernelIdeal.Value
open Cert.KernelIdeal Cert.KernelIdeal.Gen Cert.Tokens

/-- Row `r` of a block. -/
abbrev row {R K : ℕ} (x : Arr 2 ![R, K]) (r : Fin R) : Fin K → EReal := fun k => x (ix2 r k)

/-- The number a row's validity is kept as: one where the row has mass, zero elsewhere. -/
def validity {K : ℕ} (x : Fin K → EReal) : EReal := if mass x = 0 then 0 else 1

/-- The validity as it is computed: the bit "mass is positive", made a number. -/
theorem validity_bit {K : ℕ} (x : Fin K → EReal) :
    (FloatOps.sitofp (F := Ideal) FTy.f32 (BitVec.setWidth 32 (BitVec.ofBool
      (decide (0 < ∑ k, FloatOps.absf (F := Ideal) (φ := FTy.f32) (x k))))) : EReal) = validity x := by
  rw [bit_number]
  unfold validity
  by_cases h : mass x = 0
  · rw [if_pos h, if_neg]
    rw [mass_pos]; exact not_not.mpr h
  · rw [if_neg h, if_pos]
    rw [mass_pos]; exact h

/-- A position term weighted by the validity is the position term of valid tokens only. -/
theorem validity_mul {K : ℕ} (x : Fin K → EReal) (y p : Fin 7 → EReal) (q : EReal) :
    validity x * (∑ j, y j * p j + q) = posTerm x y p q := by
  unfold validity posTerm affine
  split_ifs <;> simp

/-- The class of a feature as the kernel computes it, against a table of `n` rows. -/
theorem class_sum {n : ℕ} (h0 : 0 < n) (hn : n < 2 ^ 30) (x : EReal) (e : Fin n → EReal) (S : BitVec 32)
    (hS : S = BitVec.ofNat 32 n) (z : BitVec 1) (hz : z = 0#1) (R W : BitVec 32)
    (hR : R = IntOp.remsi ArithUnit.vector (FloatOps.fptosi (F := Ideal) (φ := FTy.f32) 32
      (FloatOps.absf (F := Ideal) (φ := FTy.f32) x * Ideal.ofBits FTy.f32 0x44794000#32)) S)
    (hW : W = Scalar.select (IntOp.andi (IntOp.xori (IntOp.cmpi .slt R 0#32) z) (IntOp.cmpi .ne R 0#32))
      (IntOp.addi R S) R) :
    ∑ k : Fin n, (FloatOps.sitofp (F := Ideal) FTy.f32 (BitVec.setWidth 32 (IntOp.cmpi .eq W (BitVec.ofNat 32 k.val))) : EReal)
        * e k = e ⟨cls n x, cls_lt h0 x⟩ := by
  subst hS hz hR
  rw [floor_rem_word ArithUnit.vector _ h0 hn _ (by
    generalize IntOp.cmpi .slt _ _ = c; revert c; decide)] at hW
  rw [hW]
  exact sum_indicator (cls_lt h0 x) (by omega) e

section Agents
variable (Wp : Arr 2 ![7, 256]) (bp : Arr 2 ![1, 256]) (nb : Arr 2 ![1024, 231]) (Wa : Arr 2 ![231, 256])
  (ba : Arr 2 ![1, 256]) (te : Arr 2 ![5, 256])

/-- The agents' validity. -/
theorem pay4_apply (r : Fin 1024) (z : Fin 1) : k0_pay4 (F := Ideal) nb (ix2 r z) = validity (row nb r) := by
  pointwise [k0_pay4, k0_pay3]
  exact validity_bit (row nb r)

/-- The type vector of an agent, as the sum against the indicator of its class. -/
theorem pay5_sum (r : Fin 1024) (h : Fin 256) :
    ∑ k : Fin 5, k0_pay5 (F := Ideal) nb (ix2 r k) * te (ix2 k h)
      = col te h ⟨cls 5 (row nb r ⟨230, by omega⟩), cls_lt (by omega) _⟩ := by
  have e : ∀ k : Fin 5, k0_pay5 (F := Ideal) nb (ix2 r k) = _ := fun k => by
    pointwise [k0_pay5, k0_pay3]; exact rfl
  simp only [e]
  exact class_sum (n := 5) (by decide) (by decide) (row nb r ⟨230, by omega⟩) (col te h) _ (by decide) _ (by decide) _ _ rfl rfl

/-- The agents' tokens. -/
theorem pay7_apply (r : Fin 1024) (h : Fin 256) :
    k0_pay7 (F := Ideal) Wp (k0_pay2 bp) (k0_pay3 nb) (k0_pay4 nb) (k0_pay5 nb) (k0_pay6 nb Wa) ba te (ix2 r h)
      = agentTok (row nb r) (col Wa h) (ba (ix2 0 h)) (col te h) (col Wp h) (bp (ix2 0 h)) := by
  have e6 : k0_pay6 (F := Ideal) nb Wa (ix2 r h) = ∑ k, nb (ix2 r k) * Wa (ix2 k h) := by pointwise [k0_pay6, k0_pay3]
  have e3 : ∀ k : Fin 231, k0_pay3 (F := Ideal) nb (ix2 r k) = nb (ix2 r k) := fun k => by pointwise [k0_pay3]
  have e2 : k0_pay2 (F := Ideal) bp (ix2 0 h) = bp (ix2 0 h) := by pointwise [k0_pay2]
  pointwise [k0_pay7]
  rw [pay5_sum, e6, pay4_apply, e2]
  simp only [e3]
  unfold agentTok
  rw [← validity_mul]
  rfl
end Agents

section Statics
variable (Wp : Arr 2 ![7, 256]) (bp : Arr 2 ![1, 256]) (st : Arr 2 ![160, 10]) (Ws : Arr 2 ![10, 256]) (bs : Arr 2 ![1, 256])

/-- The static objects' validity. -/
theorem pay9_apply (r : Fin 160) (z : Fin 1) : k0_pay9 (F := Ideal) st (ix2 r z) = validity (row st r) := by
  pointwise [k0_pay9, k0_pay8]
  exact validity_bit (row st r)

/-- The static objects' tokens. -/
theorem pay10_apply (r : Fin 160) (h : Fin 256) :
    k0_pay10 (F := Ideal) Wp (k0_pay2 bp) st Ws bs (ix2 r h)
      = staticTok (row st r) (col Ws h) (bs (ix2 0 h)) (col Wp h) (bp (ix2 0 h)) := by
  have e8 : ∀ k : Fin 10, k0_pay8 (F := Ideal) st (ix2 r k) = st (ix2 r k) := fun k => by pointwise [k0_pay8]
  have e2 : k0_pay2 (F := Ideal) bp (ix2 0 h) = bp (ix2 0 h) := by pointwise [k0_pay2]
  pointwise [k0_pay10]
  rw [pay9_apply, e2]
  simp only [e8]
  unfold staticTok
  rw [← validity_mul]
  rfl
end Statics

section Lanes
variable (Wp : Arr 2 ![7, 256]) (bp : Arr 2 ![1, 256]) (ln : Arr 2 ![2240, 240]) (Wl : Arr 2 ![240, 256])
  (bl : Arr 2 ![1, 256]) (aux : Arr 2 ![2240, 3]) (W3 : Arr 2 ![3, 256]) (tr : Arr 2 ![4, 256])

/-- The lanes' validity. -/
theorem pay12_apply (r : Fin 2240) (z : Fin 1) : k0_pay12 (F := Ideal) ln (ix2 r z) = validity (row ln r) := by
  pointwise [k0_pay12, k0_pay11]
  exact validity_bit (row ln r)

/-- The traffic-light vector of a lane, as the sum against the indicator of its class. -/
theorem pay13_sum (r : Fin 2240) (h : Fin 256) :
    ∑ k : Fin 4, k0_pay13 (F := Ideal) ln (ix2 r k) * tr (ix2 k h)
      = col tr h ⟨cls 4 (row ln r ⟨11, by omega⟩), cls_lt (by omega) _⟩ := by
  have e : ∀ k : Fin 4, k0_pay13 (F := Ideal) ln (ix2 r k) = _ := fun k => by
    pointwise [k0_pay13, k0_pay11]; exact rfl
  simp only [e]
  exact class_sum (n := 4) (by decide) (by decide) (row ln r ⟨11, by omega⟩) (col tr h) _ (by decide) _ (by decide) _ _ rfl rfl

/-- The lanes' tokens. -/
theorem pay15_apply (r : Fin 2240) (h : Fin 256) :
    k0_pay15 (F := Ideal) Wp (k0_pay2 bp) (k0_pay11 ln) (k0_pay12 ln) (k0_pay13 ln) (k0_pay14 ln Wl bl) aux W3 tr (ix2 r h)
      = laneTok (row ln r) (col Wl h) (bl (ix2 0 h)) (∑ k : Fin 3, aux (ix2 r k) * W3 (ix2 k h)) (col tr h) (col Wp h)
          (bp (ix2 0 h)) := by
  have e14 : k0_pay14 (F := Ideal) ln Wl bl (ix2 r h) = ∑ k, ln (ix2 r k) * Wl (ix2 k h) + bl (ix2 0 h) := by
    pointwise [k0_pay14, k0_pay11]
  have e11 : ∀ k : Fin 240, k0_pay11 (F := Ideal) ln (ix2 r k) = ln (ix2 r k) := fun k => by pointwise [k0_pay11]
  have e2 : k0_pay2 (F := Ideal) bp (ix2 0 h) = bp (ix2 0 h) := by pointwise [k0_pay2]
  pointwise [k0_pay15]
  rw [pay13_sum, e14, pay12_apply, e2]
  simp only [e11]
  unfold laneTok
  rw [← validity_mul]
  rfl
end Lanes

section Routes
variable (rt : Arr 2 ![800, 240]) (Wr : Arr 2 ![240, 256]) (br : Arr 2 ![1, 256])

/-- The layer and hyperbolic tangent of a route segment. -/
theorem pay16_apply (x : Fin 800) (h : Fin 256) :
    k0_pay16 (F := Ideal) rt Wr br (ix2 x h) = Ideal.tanh (affine (row rt x) (col Wr h) (br (ix2 0 h))) := by
  pointwise [k0_pay16]
  rfl

/-- The named constant `inv_routes` is one twenty-fifth. -/
theorem inv_routes : (Named.named (F := Ideal) (φ := FTy.f32) Cert.KernelIdeal.κ "inv_routes" 0x3D23D70A#32 : EReal)
    = ((25⁻¹ : ℝ) : EReal) :=
  IdealRules.named_const.ideal_named_scalar _ _ _ _ rfl

/-- The means over the routes of a block. -/
theorem pay19_apply (r : Fin 32) (h : Fin 256) :
    k0_pay19 (F := Ideal) (k0_pay16 rt Wr br) (iota .tc S32x800 32 [1] iota_S32x800_d1_w32)
        (iota .tc S32x800 32 [0] iota_S32x800_d0_w32) 25#32 k0_pay17 k0_pay18 (Scalar.cmpi .sgt 25#32 0#32) (ix2 r h)
      = routeMean (fun s => row rt ⟨r.val * 25 + s.val, by omega⟩) (col Wr h) (br (ix2 0 h)) := by
  pointwise [k0_pay17, k0_pay18, k0_pay19]
  unfold routeMean
  rw [← group_mean (fun x => affine (row rt x) (col Wr h) (br (ix2 0 h))) r]
  refine Finset.sum_congr rfl fun x _ => ?_
  rw [pay16_apply, inv_routes]
  congr 2
  rw [show Scalar.subi (Scalar.extui (Scalar.cmpi .sgt 25#32 0#32)) (Scalar.extui (Scalar.cmpi .slt 25#32 0#32)) = 1#32 from by decide]
  rw [group_word x, indicator (by omega) (by omega)]
end Routes

end Cert.KernelIdeal.Value
-- ==== Proof.BodyKernelIdeal.lean ====
/- The run of the kernel over the extended reals: what each output block holds after a grid point, the data of the pipeline, the body's
   obligation at every point, and the frame claim. The statements are those of the launch set-up for this program. -/
module

public import proofs.«01_k».proof.Proof.Gen.KernelIdeal.Frame.RunA
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 20 are of SEVERAL sizes (64 stores of `S1x32x256`, `S1x5x256`): cut into blocks of `![1, 1, 256]` they tile its block (`Piece.tiledBy`), so they cover it. -/
theorem cover0_A_20 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) (y : S32x37x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).1 ![1, 1, 256] (by sl_kernel_rfl) y

/-- What the run leaves in output 20's staging buffer: its pieces read back over junk. -/
def out0_A_20 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) : Vec F S32x37x256 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).1)

/-- The run's pieces for output 21 tile its block (32 stores of `S1x70x256`), so they cover it. -/
theorem cover0_A_21 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) (y : S32x70x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.1 S1x70x256.size (by sl_kernel_rfl) y

/-- What the run leaves in output 21's staging buffer: its pieces read back over junk. -/
def out0_A_21 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) : Vec F S32x70x256 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.1)

/-- The run's pieces for output 22 tile its block (1 store of `S1024x1`), so they cover it. -/
theorem cover0_A_22 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) (y : S1024x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.1 S1024x1.size (by sl_kernel_rfl) y

/-- What the run leaves in output 22's staging buffer: its pieces read back over junk. -/
def out0_A_22 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) : Vec F S1024x1 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.1)

/-- The run's pieces for output 23 tile its block (1 store of `S160x1`), so they cover it. -/
theorem cover0_A_23 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) (y : S160x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.2.1 S160x1.size (by sl_kernel_rfl) y

/-- What the run leaves in output 23's staging buffer: its pieces read back over junk. -/
def out0_A_23 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) : Vec F S160x1 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.2.1)

/-- The run's pieces for output 24 tile its block (1 store of `S2240x1`), so they cover it. -/
theorem cover0_A_24 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) (y : S2240x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.2.2.1 S2240x1.size (by sl_kernel_rfl) y

/-- What the run leaves in output 24's staging buffer: its pieces read back over junk. -/
def out0_A_24 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) : Vec F S2240x1 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.2.2.1)

/-- The run's pieces for output 25 tile its block (1 store of `S32x256`), so they cover it. -/
theorem cover0_A_25 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) (y : S32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.2.2.2.1 S32x256.size (by sl_kernel_rfl) y

/-- What the run leaves in output 25's staging buffer: its pieces read back over junk. -/
def out0_A_25 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) : Vec F S32x256 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.2.2.2.1)

/-- The run's pieces for output 26 tile its block (32 stores of `S1x125x125`), so they cover it. -/
theorem cover0_A_26 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) (y : S32x125x125.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.2.2.2.2.1 S1x125x125.size (by sl_kernel_rfl) y

/-- What the run leaves in output 26's staging buffer: its pieces read back over junk. -/
def out0_A_26 (c : Dev nD) (i : grid0.Coords) (arg1 : Memref sig .tc .vmem S1024x231 .f32) (harg1 : arg1.IsWhole) (arg2 : Memref sig .tc .vmem S160x10 .f32) (harg2 : arg2.IsWhole) (arg3 : Memref sig .tc .vmem S2240x240 .f32) (harg3 : arg3.IsWhole) (arg4 : Memref sig .tc .vmem S2240x3 .f32) (harg4 : arg4.IsWhole) (arg5 : Memref sig .tc .vmem S800x240 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S231x256 .f32) (harg8 : arg8.IsWhole) (arg9 : Memref sig .tc .vmem S1x256 .f32) (harg9 : arg9.IsWhole) (arg10 : Memref sig .tc .vmem S5x256 .f32) (harg10 : arg10.IsWhole) (arg11 : Memref sig .tc .vmem S10x256 .f32) (harg11 : arg11.IsWhole) (arg12 : Memref sig .tc .vmem S1x256 .f32) (harg12 : arg12.IsWhole) (arg13 : Memref sig .tc .vmem S240x256 .f32) (harg13 : arg13.IsWhole) (arg14 : Memref sig .tc .vmem S1x256 .f32) (harg14 : arg14.IsWhole) (arg15 : Memref sig .tc .vmem S3x256 .f32) (harg15 : arg15.IsWhole) (arg16 : Memref sig .tc .vmem S4x256 .f32) (harg16 : arg16.IsWhole) (arg17 : Memref sig .tc .vmem S240x256 .f32) (harg17 : arg17.IsWhole) (arg18 : Memref sig .tc .vmem S1x256 .f32) (harg18 : arg18.IsWhole) (arg19 : Memref sig .tc .vmem S7x256 .f32) (harg19 : arg19.IsWhole) (arg20 : Memref sig .tc .vmem S1x256 .f32) (harg20 : arg20.IsWhole) (arg21 : Memref sig .tc .vmem S32x37x256 .f32) (harg21 : arg21.IsWhole) (arg22 : Memref sig .tc .vmem S32x70x256 .f32) (harg22 : arg22.IsWhole) (arg23 : Memref sig .tc .vmem S1024x1 .f32) (harg23 : arg23.IsWhole) (arg24 : Memref sig .tc .vmem S160x1 .f32) (harg24 : arg24.IsWhole) (arg25 : Memref sig .tc .vmem S2240x1 .f32) (harg25 : arg25.IsWhole) (arg26 : Memref sig .tc .vmem S32x256 .f32) (harg26 : arg26.IsWhole) (arg27 : Memref sig .tc .vmem S32x125x125 .f32) (harg27 : arg27.IsWhole)
    (x0 : Vec F S1024x231 .f32) (x1 : Vec F S160x10 .f32) (x2 : Vec F S2240x240 .f32) (x3 : Vec F S2240x3 .f32) (x4 : Vec F S800x240 .f32) (x5 : Vec F S32x128 .f32) (x6 : Vec F S32x128 .f32) (x7 : Vec F S231x256 .f32) (x8 : Vec F S1x256 .f32) (x9 : Vec F S5x256 .f32) (x10 : Vec F S10x256 .f32) (x11 : Vec F S1x256 .f32) (x12 : Vec F S240x256 .f32) (x13 : Vec F S1x256 .f32) (x14 : Vec F S3x256 .f32) (x15 : Vec F S4x256 .f32) (x16 : Vec F S240x256 .f32) (x17 : Vec F S1x256 .f32) (x18 : Vec F S7x256 .f32) (x19 : Vec F S1x256 .f32) : Vec F S32x125x125 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19).2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S32x37x256 .f32 × Vec F S32x70x256 .f32 × Vec F S1024x1 .f32 × Vec F S160x1 .f32 × Vec F S2240x1 .f32 × Vec F S32x256 .f32 × Vec F S32x125x125 .f32 :=
  (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t).1
    | ⟨21, _⟩ => (outsAt0 m c t).2.1
    | ⟨22, _⟩ => (outsAt0 m c t).2.2.1
    | ⟨23, _⟩ => (outsAt0 m c t).2.2.2.1
    | ⟨24, _⟩ => (outsAt0 m c t).2.2.2.2.1
    | ⟨25, _⟩ => (outsAt0 m c t).2.2.2.2.2.1
    | ⟨26, _⟩ => (outsAt0 m c t).2.2.2.2.2.2
    | ⟨_ + 27, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t).1 := by dsimp only [dats]
theorem after0_21 (c : Dev nD) (t : Fin cfg0.N) : (dats m 0 c).after 21 t = (outsAt0 m c t).2.1 := by dsimp only [dats]
theorem after0_22 (c : Dev nD) (t : Fin cfg0.N) : (dats m 0 c).after 22 t = (outsAt0 m c t).2.2.1 := by dsimp only [dats]
theorem after0_23 (c : Dev nD) (t : Fin cfg0.N) : (dats m 0 c).after 23 t = (outsAt0 m c t).2.2.2.1 := by dsimp only [dats]
theorem after0_24 (c : Dev nD) (t : Fin cfg0.N) : (dats m 0 c).after 24 t = (outsAt0 m c t).2.2.2.2.1 := by dsimp only [dats]
theorem after0_25 (c : Dev nD) (t : Fin cfg0.N) : (dats m 0 c).after 25 t = (outsAt0 m c t).2.2.2.2.2.1 := by dsimp only [dats]
theorem after0_26 (c : Dev nD) (t : Fin cfg0.N) : (dats m 0 c).after 26 t = (outsAt0 m c t).2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  unfold outsAt0
  unfold out0_A_20 out0_A_21 out0_A_22 out0_A_23 out0_A_24 out0_A_25 out0_A_26; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- THE FRAME: `Cert.quiescent_KernelIdeal`'s statement (Defs.lean) at any `F`, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.KernelIdeal.Gen

end
-- ==== Proof.Entry.lean ====
/- The arrays the kernel's region is given, entry by entry, as functions of the arguments: the host operations before it
   flatten the inputs into rows, build the speed-limit columns, and collect the token positions. -/
module

public import proofs.«01_k».proof.Proof.Pay
public import proofs.«01_k».proof.Proof.BodyKernelIdeal
public import Idealize.ShloMosaic.Lib.Pointwise
public import Idealize.ShloMosaic.Lib.WordCmp
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Value
open Cert.KernelIdeal Cert.KernelIdeal.Gen Cert.Tokens

variable (m : (ℓ : Loc nD τ sig) → Buf (Elt Ideal) ℓ) (c : Dev nD)

/-- The agents. -/
abbrev A0 : Arr 4 ![512, 32, 21, 11] := m ((c : Thread nD τ).loc main_arg0)
/-- The static objects. -/
abbrev A1 : Arr 3 ![512, 5, 10] := m ((c : Thread nD τ).loc main_arg1)
/-- The lanes. -/
abbrev A2 : Arr 4 ![512, 70, 20, 12] := m ((c : Thread nD τ).loc main_arg2)
/-- The speed limits. -/
abbrev A3 : Arr 3 ![512, 70, 1] := m ((c : Thread nD τ).loc main_arg3)
/-- Which lanes have a speed limit. -/
abbrev A4 : IVec ⟨3, ![512, 70, 1]⟩ 1 := m ((c : Thread nD τ).loc main_arg4)
/-- The routes. -/
abbrev A5 : Arr 4 ![512, 25, 20, 12] := m ((c : Thread nD τ).loc main_arg5)

/-- The speed-limit columns, a row for each lane. -/
abbrev limits : Arr 2 ![35840, 3] := V m c main_v8
/-- The weights of the speed-limit columns. -/
abbrev limitW : Arr 2 ![3, 256] := V m c main_v11

/-- Agents in rows: row `r` is agent `r % 32` of sample `r / 32`. -/
theorem V_v0 (r : Fin 16384) (k : Fin 231) :
    (V m c main_v0 : Arr 2 ![16384, 231]) (ix2 r k)
      = agentRow (A0 m c) ⟨r.val / 32, by omega⟩ ⟨r.val % 32, by omega⟩ k := by
  unfold V V0
  simp only [List.flatten_cons, List.flatten_nil, List.cons_append, List.nil_append]
  after_results_simp
  pointwise [agentRow]
  try blk_ext

/-- Static objects in rows. -/
theorem V_v1 (r : Fin 2560) (k : Fin 10) :
    (V m c main_v1 : Arr 2 ![2560, 10]) (ix2 r k)
      = staticRow (A1 m c) ⟨r.val / 5, by omega⟩ ⟨r.val % 5, by omega⟩ k := by
  unfold V V0
  simp only [List.flatten_cons, List.flatten_nil, List.cons_append, List.nil_append]
  after_results_simp
  pointwise [staticRow]
  try blk_ext

/-- Lanes in rows. -/
theorem V_v3 (r : Fin 35840) (k : Fin 240) :
    (V m c main_v3 : Arr 2 ![35840, 240]) (ix2 r k)
      = pointRow (L := 70) (A2 m c) ⟨r.val / 70, by omega⟩ ⟨r.val % 70, by omega⟩ k := by
  unfold V V0
  simp only [List.flatten_cons, List.flatten_nil, List.cons_append, List.nil_append]
  after_results_simp
  pointwise [pointRow]
  try blk_ext

/-- Route segments in rows. -/
theorem V_v12 (r : Fin 12800) (k : Fin 240) :
    (V m c main_v12 : Arr 2 ![12800, 240]) (ix2 r k)
      = pointRow (L := 25) (A5 m c) ⟨r.val / 25, by omega⟩ ⟨r.val % 25, by omega⟩ k := by
  unfold V V0
  simp only [List.flatten_cons, List.flatten_nil, List.cons_append, List.nil_append]
  after_results_simp
  pointwise [pointRow]
  try blk_ext

/-- A vector as a row. -/
theorem vec_row (x : FVec Ideal S256 .f32) (z : Fin 1) (h : Fin 256) :
    shapeCast S1x256 x shapeCasts_S256_S1x256 (ix2 z h) = x (ix1 h) := by
  pointwise
  try blk_ext

/-- The agent layer's bias as a row. -/
theorem V_v37 (z : Fin 1) (h : Fin 256) :
    (V m c main_v37 : Arr 2 ![1, 256]) (ix2 z h) = (m ((c : Thread nD τ).loc main_arg7) : Arr 1 ![256]) (ix1 h) := by
  refine Eq.trans ?_ (vec_row (m ((c : Thread nD τ).loc main_arg7)) z h)
  unfold V V0
  simp only [List.flatten_cons, List.flatten_nil, List.cons_append, List.nil_append]
  after_results_simp
  rfl

/-- The static layer's bias as a row. -/
theorem V_v38 (z : Fin 1) (h : Fin 256) :
    (V m c main_v38 : Arr 2 ![1, 256]) (ix2 z h) = (m ((c : Thread nD τ).loc main_arg10) : Arr 1 ![256]) (ix1 h) := by
  refine Eq.trans ?_ (vec_row (m ((c : Thread nD τ).loc main_arg10)) z h)
  unfold V V0
  simp only [List.flatten_cons, List.flatten_nil, List.cons_append, List.nil_append]
  after_results_simp
  rfl

/-- The lane layer's bias as a row. -/
theorem V_v39 (z : Fin 1) (h : Fin 256) :
    (V m c main_v39 : Arr 2 ![1, 256]) (ix2 z h) = (m ((c : Thread nD τ).loc main_arg12) : Arr 1 ![256]) (ix1 h) := by
  refine Eq.trans ?_ (vec_row (m ((c : Thread nD τ).loc main_arg12)) z h)
  unfold V V0
  simp only [List.flatten_cons, List.flatten_nil, List.cons_append, List.nil_append]
  after_results_simp
  rfl

/-- The route layer's bias as a row. -/
theorem V_v40 (z : Fin 1) (h : Fin 256) :
    (V m c main_v40 : Arr 2 ![1, 256]) (ix2 z h) = (m ((c : Thread nD τ).loc main_arg18) : Arr 1 ![256]) (ix1 h) := by
  refine Eq.trans ?_ (vec_row (m ((c : Thread nD τ).loc main_arg18)) z h)
  unfold V V0
  simp only [List.flatten_cons, List.flatten_nil, List.cons_append, List.nil_append]
  after_results_simp
  rfl

/-- The position layer's bias as a row. -/
theorem V_v41 (z : Fin 1) (h : Fin 256) :
    (V m c main_v41 : Arr 2 ![1, 256]) (ix2 z h) = (m ((c : Thread nD τ).loc main_arg20) : Arr 1 ![256]) (ix1 h) := by
  refine Eq.trans ?_ (vec_row (m ((c : Thread nD τ).loc main_arg20)) z h)
  unfold V V0
  simp only [List.flatten_cons, List.flatten_nil, List.cons_append, List.nil_append]
  after_results_simp
  rfl

/-- A function of three arguments at equal arguments. -/
theorem congr3 {α β γ δ : Sort _} (f : α → β → γ → δ) {a a' : α} {b b' : β} {c c' : γ} (ha : a = a') (hb : b = b')
    (hc : c = c') : f a b c = f a' b' c' := by subst ha hb hc; rfl

/-- The speed-limit columns before they are put in rows: the limit where there is one, the bit itself, and one minus it. -/
theorem V_v7 : (V m c main_v7 : Arr 3 ![512, 70, 3])
    = concatenate S512x70x3 2 [⟨S512x70x1, mulf (A3 m c) (uitofp .f32 (A4 m c))⟩, ⟨S512x70x1, (uitofp .f32 (A4 m c) : FVec Ideal S512x70x1 .f32)⟩,
      ⟨S512x70x1, subf (broadcastInDim S512x70x1 ![] bcast_S_S512x70x1 (constant (F := Ideal) S_ .f32 0x3F800000#32)) (uitofp .f32 (A4 m c))⟩]
      concatenates_S512x70x1_S512x70x1_S512x70x1_S512x70x3_d2 := by
  unfold V V0
  simp only [List.flatten_cons, List.flatten_nil, List.cons_append, List.nil_append]
  after_results_simp
  refine congr3 (fun a b c => concatenate S512x70x3 2 [⟨S512x70x1, a⟩, ⟨S512x70x1, b⟩, ⟨S512x70x1, c⟩]
    concatenates_S512x70x1_S512x70x1_S512x70x1_S512x70x3_d2) ?_ ?_ ?_ <;> (try dsimp only [Matrix.cons_val]; try after_results_simp; try rfl)

/-- The speed-limit columns in rows. -/
theorem V_v8' : (V m c main_v8 : Arr 2 ![35840, 3]) = shapeCast S35840x3 (V m c main_v7 : Arr 3 ![512, 70, 3]) shapeCasts_S512x70x3_S35840x3 := by
  unfold V V0
  simp only [List.flatten_cons, List.flatten_nil, List.cons_append, List.nil_append]
  after_results_simp
  rfl

/-- Rows of three columns, read at an index. -/
theorem rows3 (x : FVec Ideal S512x70x3 .f32) (r : Fin 35840) (k : Fin 3) :
    shapeCast S35840x3 x shapeCasts_S512x70x3_S35840x3 (ix2 r k)
      = x (ix3 ⟨r.val / 70, by omega⟩ ⟨r.val % 70, by omega⟩ k) := by
  pointwise
  try blk_ext

/-- The three speed-limit columns of a lane. -/
theorem V_v7_apply (b : Fin 512) (l : Fin 70) :
    (V m c main_v7 : Arr 3 ![512, 70, 3]) (ix3 b l 0)
        = A3 m c (ix3 b l 0) * FloatOps.uitofp (F := Ideal) .f32 (A4 m c (ix3 b l 0))
      ∧ (V m c main_v7 : Arr 3 ![512, 70, 3]) (ix3 b l 1) = FloatOps.uitofp (F := Ideal) .f32 (A4 m c (ix3 b l 0))
      ∧ (V m c main_v7 : Arr 3 ![512, 70, 3]) (ix3 b l 2)
        = Ideal.ofBits .f32 0x3F800000#32 - FloatOps.uitofp (F := Ideal) .f32 (A4 m c (ix3 b l 0)) := by
  rw [V_v7]
  refine ⟨?_, ?_, ?_⟩ <;> pointwise

/-- The bit of a lane picks its speed-limit term. -/
theorem speed_sum (b : BitVec 1) (s w q u : EReal) :
    s * FloatOps.uitofp (F := Ideal) .f32 b * w + FloatOps.uitofp (F := Ideal) .f32 b * q
      + (Ideal.ofBits .f32 0x3F800000#32 - FloatOps.uitofp (F := Ideal) .f32 b) * u = speed b s w q u := by
  have h0 : (FloatOps.uitofp (F := Ideal) FTy.f32 0#1 : EReal) = 0 := by
    show (((0#1).toNat : ℝ) : EReal) = 0
    simp
  have h1 : (FloatOps.uitofp (F := Ideal) FTy.f32 1#1 : EReal) = 1 := by
    show (((1#1).toNat : ℝ) : EReal) = 1
    simp
  have e1 : Ideal.ofBits FTy.f32 0x3F800000#32 = (1 : EReal) := Ideal.ofBits_one_f32
  have hd : ((1 : EReal) - 1) = 0 := by
    rw [← EReal.coe_one, ← EReal.coe_sub]; simp
  unfold speed
  rcases (by decide : ∀ b : BitVec 1, b = 0#1 ∨ b = 1#1) b with rfl | rfl
  · rw [h0, e1, if_neg (by decide)]; simp
  · rw [h1, e1, if_pos rfl, hd]; simp

/-- The weights of the three columns, as an array: the layer's, its bias, and the vector for an unknown limit. -/
theorem V_v11' : (V m c main_v11 : Arr 2 ![3, 256])
    = concatenate S3x256 0 [⟨S1x256, (m ((c : Thread nD τ).loc main_arg13) : FVec Ideal S1x256 .f32)⟩,
        ⟨S1x256, broadcastInDim S1x256 ![1] bcast_S256_S1x256_1 (m ((c : Thread nD τ).loc main_arg14) : FVec Ideal S256 .f32)⟩,
        ⟨S1x256, broadcastInDim S1x256 ![1] bcast_S256_S1x256_1 (m ((c : Thread nD τ).loc main_arg15) : FVec Ideal S256 .f32)⟩]
      concatenates_S1x256_S1x256_S1x256_S3x256_d0 := by
  unfold V V0
  simp only [List.flatten_cons, List.flatten_nil, List.cons_append, List.nil_append]
  after_results_simp
  refine congr3 (fun a b c => concatenate S3x256 0 [⟨S1x256, a⟩, ⟨S1x256, b⟩, ⟨S1x256, c⟩]
    concatenates_S1x256_S1x256_S1x256_S3x256_d0) ?_ ?_ ?_ <;> (try dsimp only [Matrix.cons_val]; try after_results_simp; try rfl)

/-- The weights of the three columns. -/
theorem V_v11_apply (h : Fin 256) :
    (V m c main_v11 : Arr 2 ![3, 256]) (ix2 0 h) = (m ((c : Thread nD τ).loc main_arg13) : Arr 2 ![1, 256]) (ix2 0 h)
      ∧ (V m c main_v11 : Arr 2 ![3, 256]) (ix2 1 h) = (m ((c : Thread nD τ).loc main_arg14) : Arr 1 ![256]) (ix1 h)
      ∧ (V m c main_v11 : Arr 2 ![3, 256]) (ix2 2 h) = (m ((c : Thread nD τ).loc main_arg15) : Arr 1 ![256]) (ix1 h) := by
  rw [V_v11']
  refine ⟨?_, ?_, ?_⟩ <;> pointwise

/-- The product of a lane's three columns with their weights is its speed-limit term. -/
theorem speed_entry (r : Fin 35840) (h : Fin 256) :
    (∑ k : Fin 3, limits m c (ix2 r k) * limitW m c (ix2 k h))
      = speed (A4 m c (ix3 ⟨r.val / 70, by omega⟩ ⟨r.val % 70, by omega⟩ 0))
          (A3 m c (ix3 ⟨r.val / 70, by omega⟩ ⟨r.val % 70, by omega⟩ 0))
          ((m ((c : Thread nD τ).loc main_arg13) : Arr 2 ![1, 256]) (ix2 0 h))
          ((m ((c : Thread nD τ).loc main_arg14) : Arr 1 ![256]) (ix1 h))
          ((m ((c : Thread nD τ).loc main_arg15) : Arr 1 ![256]) (ix1 h)) := by
  obtain ⟨w0, w1, w2⟩ := V_v11_apply m c h
  obtain ⟨x0, x1, x2⟩ := V_v7_apply m c ⟨r.val / 70, by omega⟩ ⟨r.val % 70, by omega⟩
  refine Eq.trans ?_ (speed_sum _ _ _ _ _)
  unfold limits limitW
  rw [Fin.sum_univ_three, w0, w1, w2, V_v8', rows3, rows3, rows3, x0, x1, x2]

/-- A function of five arguments at equal arguments. -/
theorem congr5 {α β γ δ ε ζ : Sort _} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

/-- Padding on the right leaves the columns before it. -/
theorem pad_apply (x : FVec Ideal S512x125 .f32) (v : FVec Ideal S_ .f32) (r : Fin 512) (h : Fin 125) (k : Fin 128) (hk : k.val = h.val) :
    pad S512x128 ![0, 0] ![0, 3] ![0, 0] x v pads_S512x125_S512x128_000_030 h_S_ (ix2 r k) = x (ix2 r h) := by
  have := r.isLt
  have := h.isLt
  pointwise
  rw [dif_pos]
  · blk_ext
  · omega

/-- The tokens' first coordinates, padded. -/
theorem V_v35' : (V m c main_v35 : Arr 2 ![512, 128]) = pad S512x128 ![0, 0] ![0, 3] ![0, 0] (V m c main_v24 : Arr 2 ![512, 125])
    (sitofp (F := Ideal) .f32 (constantI S_ 32 0#32)) pads_S512x125_S512x128_000_030 h_S_ := by
  unfold V V0
  simp only [List.flatten_cons, List.flatten_nil, List.cons_append, List.nil_append]
  after_results_simp
  rfl

/-- The tokens' first coordinates side by side. -/
theorem V_v24 : (V m c main_v24 : Arr 2 ![512, 125]) = concatenate S512x125 1
      [⟨S512x32, shapeCast S512x32 (extractStridedSlice S512x32x1 ![0, 0, 0] (shapeCast S512x32x2 (extractStridedSlice S512x32x1x2 ![0, 0, 20, 0] (A0 m c) slices_S512x32x21x11_S512x32x1x2_0_0_20_0) shapeCasts_S512x32x1x2_S512x32x2) slices_S512x32x2_S512x32x1_0_0_0) shapeCasts_S512x32x1_S512x32⟩,
      ⟨S512x5, shapeCast S512x5 (extractStridedSlice S512x5x1 ![0, 0, 0] (A1 m c) slices_S512x5x10_S512x5x1_0_0_0) shapeCasts_S512x5x1_S512x5⟩,
      ⟨S512x70, shapeCast S512x70 (extractStridedSlice S512x70x1x1 ![0, 0, 10, 0] (A2 m c) slices_S512x70x20x12_S512x70x1x1_0_0_10_0) shapeCasts_S512x70x1x1_S512x70⟩,
      ⟨S512x8, broadcastInDim S512x8 ![] bcast_S_S512x8 (constant (F := Ideal) S_ .f32 0xBF000000#32)⟩,
      ⟨S512x10, shapeCast S512x10 (extractStridedSlice S512x10x1 ![0, 0, 0] (shapeCast S512x32x2 (extractStridedSlice S512x32x1x2 ![0, 0, 20, 0] (A0 m c) slices_S512x32x21x11_S512x32x1x2_0_0_20_0) shapeCasts_S512x32x1x2_S512x32x2) slices_S512x32x2_S512x10x1_0_0_0) shapeCasts_S512x10x1_S512x10⟩]
      concatenates_S512x32_S512x5_S512x70_S512x8_S512x10_S512x125_d1 := by
  unfold V V0
  simp only [List.flatten_cons, List.flatten_nil, List.cons_append, List.nil_append]
  after_results_simp
  refine congr5 (fun a b c d e => concatenate S512x125 1 [⟨S512x32, a⟩, ⟨S512x5, b⟩, ⟨S512x70, c⟩, ⟨S512x8, d⟩, ⟨S512x10, e⟩]
    concatenates_S512x32_S512x5_S512x70_S512x8_S512x10_S512x125_d1) ?_ ?_ ?_ ?_ ?_ <;> (try dsimp only [Matrix.cons_val]; try after_results_simp; try rfl)

/-- The first coordinate of a token's position. -/
theorem V_v35 (r : Fin 512) (h : Fin 125) (k : Fin 128) (hk : k.val = h.val) :
    (V m c main_v35 : Arr 2 ![512, 128]) (ix2 r k) = loc (A0 m c) (A1 m c) (A2 m c) r h 0 := by
  rw [V_v35', V_v24, pad_apply _ _ r h k hk]
  pointwise [loc, egoLoc]
  simp only [Nat.sub_sub, Nat.reduceAdd]

/-- The tokens' second coordinates, padded. -/
theorem V_v36' : (V m c main_v36 : Arr 2 ![512, 128]) = pad S512x128 ![0, 0] ![0, 3] ![0, 0] (V m c main_v34 : Arr 2 ![512, 125])
    (sitofp (F := Ideal) .f32 (constantI S_ 32 0#32)) pads_S512x125_S512x128_000_030 h_S_ := by
  unfold V V0
  simp only [List.flatten_cons, List.flatten_nil, List.cons_append, List.nil_append]
  after_results_simp
  rfl

/-- The tokens' second coordinates side by side. -/
theorem V_v34 : (V m c main_v34 : Arr 2 ![512, 125]) = concatenate S512x125 1
      [⟨S512x32, shapeCast S512x32 (extractStridedSlice S512x32x1 ![0, 0, 1] (shapeCast S512x32x2 (extractStridedSlice S512x32x1x2 ![0, 0, 20, 0] (A0 m c) slices_S512x32x21x11_S512x32x1x2_0_0_20_0) shapeCasts_S512x32x1x2_S512x32x2) slices_S512x32x2_S512x32x1_0_0_1) shapeCasts_S512x32x1_S512x32⟩,
      ⟨S512x5, shapeCast S512x5 (extractStridedSlice S512x5x1 ![0, 0, 1] (A1 m c) slices_S512x5x10_S512x5x1_0_0_1) shapeCasts_S512x5x1_S512x5⟩,
      ⟨S512x70, shapeCast S512x70 (extractStridedSlice S512x70x1x1 ![0, 0, 10, 1] (A2 m c) slices_S512x70x20x12_S512x70x1x1_0_0_10_1) shapeCasts_S512x70x1x1_S512x70⟩,
      ⟨S512x8, broadcastInDim S512x8 ![] bcast_S_S512x8 (constant (F := Ideal) S_ .f32 0x00000000#32)⟩,
      ⟨S512x10, shapeCast S512x10 (extractStridedSlice S512x10x1 ![0, 0, 1] (shapeCast S512x32x2 (extractStridedSlice S512x32x1x2 ![0, 0, 20, 0] (A0 m c) slices_S512x32x21x11_S512x32x1x2_0_0_20_0) shapeCasts_S512x32x1x2_S512x32x2) slices_S512x32x2_S512x10x1_0_0_1) shapeCasts_S512x10x1_S512x10⟩]
      concatenates_S512x32_S512x5_S512x70_S512x8_S512x10_S512x125_d1 := by
  unfold V V0
  simp only [List.flatten_cons, List.flatten_nil, List.cons_append, List.nil_append]
  after_results_simp
  refine congr5 (fun a b c d e => concatenate S512x125 1 [⟨S512x32, a⟩, ⟨S512x5, b⟩, ⟨S512x70, c⟩, ⟨S512x8, d⟩, ⟨S512x10, e⟩]
    concatenates_S512x32_S512x5_S512x70_S512x8_S512x10_S512x125_d1) ?_ ?_ ?_ ?_ ?_ <;> (try dsimp only [Matrix.cons_val]; try after_results_simp; try rfl)

/-- The second coordinate of a token's position. -/
theorem V_v36 (r : Fin 512) (h : Fin 125) (k : Fin 128) (hk : k.val = h.val) :
    (V m c main_v36 : Arr 2 ![512, 128]) (ix2 r k) = loc (A0 m c) (A1 m c) (A2 m c) r h 1 := by
  rw [V_v36', V_v34, pad_apply _ _ r h k hk]
  pointwise [loc, egoLoc]
  simp only [Nat.sub_sub, Nat.reduceAdd]

end Cert.KernelIdeal.Value
-- ==== Proof.Blocks.lean ====
/- The blocks a grid point is given, entry by entry, as functions of the arguments: point `t` has the samples
   `32 t, …, 32 t + 31`, and every weight whole. -/
module

public import proofs.«01_k».proof.Proof.Entry

@[expose] public section

set_option maxRecDepth 16384

noncomputable section

open Idealize.ShloMosaic Idealize.ShloMosaic.TcCoe Idealize.SL.Sem

namespace Cert.KernelIdeal.Value
open Cert.KernelIdeal Cert.KernelIdeal.Gen Cert.Tokens

variable (m : (ℓ : Loc nD τ sig) → Buf (Elt Ideal) ℓ) (c : Dev nD) (t : Fin cfg0.N)

/-- Which block of its array each batched input is given. -/
theorem idx_in : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- Every weight is given whole. -/
theorem idx_par : ∀ t : Fin cfg0.N, win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0]
    ∧ win0_18.index t = ![0, 0] ∧ win0_19.index t = ![0, 0] :=
  (by decide +kernel : ∀ t : Fin grid0.N, _)

/-- Which block of its array each output writes. -/
theorem idx_out : ∀ t : Fin cfg0.N, win0_20.index t = ![t.val, 0, 0] ∧ win0_21.index t = ![t.val, 0, 0]
    ∧ win0_22.index t = ![t.val, 0] ∧ win0_23.index t = ![t.val, 0] ∧ win0_24.index t = ![t.val, 0]
    ∧ win0_25.index t = ![t.val, 0] ∧ win0_26.index t = ![t.val, 0, 0] :=
  (by decide +kernel : ∀ t : Fin grid0.N, _)

/-- There are sixteen points. -/
theorem point_lt : t.val < 16 := by have := t.isLt; have e : cfg0.N = 16 := N_0; omega

/-! ## The batched blocks -/

/-- The block of agents. -/
abbrev nbB : Arr 2 ![1024, 231] := iblk m c 0 t
/-- The block of static objects. -/
abbrev stB : Arr 2 ![160, 10] := iblk m c 1 t
/-- The block of lanes. -/
abbrev lnB : Arr 2 ![2240, 240] := iblk m c 2 t
/-- The block of speed-limit columns. -/
abbrev limB : Arr 2 ![2240, 3] := iblk m c 3 t
/-- The block of route segments. -/
abbrev rtB : Arr 2 ![800, 240] := iblk m c 4 t
/-- The block of first coordinates. -/
abbrev xB : Arr 2 ![32, 128] := iblk m c 5 t
/-- The block of second coordinates. -/
abbrev yB : Arr 2 ![32, 128] := iblk m c 6 t

/-- The block of window 0, read from its array. -/
theorem read_nbB (r : Fin 1024) (k : Fin 231) (R : Fin 16384) (hR : R.val = t.val * 1024 + r.val) :
    nbB m c t (ix2 r k) = (V m c main_v0 : Arr 2 ![16384, 231]) (ix2 R k) := by
  unfold nbB iblk
  show (((cfg0.win 0).blk t).view.read (Elt Ideal) _) _ = _
  generalize V m c main_v0 = X
  blk_ext [idx_in t]

/-- The block of window 1, read from its array. -/
theorem read_stB (r : Fin 160) (k : Fin 10) (R : Fin 2560) (hR : R.val = t.val * 160 + r.val) :
    stB m c t (ix2 r k) = (V m c main_v1 : Arr 2 ![2560, 10]) (ix2 R k) := by
  unfold stB iblk
  show (((cfg0.win 1).blk t).view.read (Elt Ideal) _) _ = _
  generalize V m c main_v1 = X
  blk_ext [idx_in t]

/-- The block of window 2, read from its array. -/
theorem read_lnB (r : Fin 2240) (k : Fin 240) (R : Fin 35840) (hR : R.val = t.val * 2240 + r.val) :
    lnB m c t (ix2 r k) = (V m c main_v3 : Arr 2 ![35840, 240]) (ix2 R k) := by
  unfold lnB iblk
  show (((cfg0.win 2).blk t).view.read (Elt Ideal) _) _ = _
  generalize V m c main_v3 = X
  blk_ext [idx_in t]

/-- The block of window 3, read from its array. -/
theorem read_limB (r : Fin 2240) (k : Fin 3) (R : Fin 35840) (hR : R.val = t.val * 2240 + r.val) :
    limB m c t (ix2 r k) = (V m c main_v8 : Arr 2 ![35840, 3]) (ix2 R k) := by
  unfold limB iblk
  show (((cfg0.win 3).blk t).view.read (Elt Ideal) _) _ = _
  generalize V m c main_v8 = X
  blk_ext [idx_in t]

/-- The block of window 4, read from its array. -/
theorem read_rtB (r : Fin 800) (k : Fin 240) (R : Fin 12800) (hR : R.val = t.val * 800 + r.val) :
    rtB m c t (ix2 r k) = (V m c main_v12 : Arr 2 ![12800, 240]) (ix2 R k) := by
  unfold rtB iblk
  show (((cfg0.win 4).blk t).view.read (Elt Ideal) _) _ = _
  generalize V m c main_v12 = X
  blk_ext [idx_in t]

/-- The block of window 5, read from its array. -/
theorem read_xB (r : Fin 32) (k : Fin 128) (R : Fin 512) (hR : R.val = t.val * 32 + r.val) :
    xB m c t (ix2 r k) = (V m c main_v35 : Arr 2 ![512, 128]) (ix2 R k) := by
  unfold xB iblk
  show (((cfg0.win 5).blk t).view.read (Elt Ideal) _) _ = _
  generalize V m c main_v35 = X
  blk_ext [idx_in t]

/-- The block of window 6, read from its array. -/
theorem read_yB (r : Fin 32) (k : Fin 128) (R : Fin 512) (hR : R.val = t.val * 32 + r.val) :
    yB m c t (ix2 r k) = (V m c main_v36 : Arr 2 ![512, 128]) (ix2 R k) := by
  unfold yB iblk
  show (((cfg0.win 6).blk t).view.read (Elt Ideal) _) _ = _
  generalize V m c main_v36 = X
  blk_ext [idx_in t]

/-- A row of the block of agents. -/
theorem row_nbB (r : Fin 1024) (b : Fin 512) (l : Fin 32) (hb : b.val = t.val * 32 + r.val / 32)
    (hl : l.val = r.val % 32) : row (nbB m c t) r = agentRow (A0 m c) b l := by
  funext k
  have ht := point_lt t
  have hr := r.isLt
  refine (read_nbB m c t r k ⟨t.val * 1024 + r.val, by omega⟩ rfl).trans ?_
  rw [V_v0]
  congr 1
  · exact Fin.ext (by show (t.val * 1024 + r.val) / 32 = b.val; omega)
  · exact Fin.ext (by show (t.val * 1024 + r.val) % 32 = l.val; omega)

/-- A row of the block of static objects. -/
theorem row_stB (r : Fin 160) (b : Fin 512) (l : Fin 5) (hb : b.val = t.val * 32 + r.val / 5)
    (hl : l.val = r.val % 5) : row (stB m c t) r = staticRow (A1 m c) b l := by
  funext k
  have ht := point_lt t
  have hr := r.isLt
  refine (read_stB m c t r k ⟨t.val * 160 + r.val, by omega⟩ rfl).trans ?_
  rw [V_v1]
  congr 1
  · exact Fin.ext (by show (t.val * 160 + r.val) / 5 = b.val; omega)
  · exact Fin.ext (by show (t.val * 160 + r.val) % 5 = l.val; omega)

/-- A row of the block of lanes. -/
theorem row_lnB (r : Fin 2240) (b : Fin 512) (l : Fin 70) (hb : b.val = t.val * 32 + r.val / 70)
    (hl : l.val = r.val % 70) : row (lnB m c t) r = pointRow (L := 70) (A2 m c) b l := by
  funext k
  have ht := point_lt t
  have hr := r.isLt
  refine (read_lnB m c t r k ⟨t.val * 2240 + r.val, by omega⟩ rfl).trans ?_
  rw [V_v3]
  congr 1
  · exact Fin.ext (by show (t.val * 2240 + r.val) / 70 = b.val; omega)
  · exact Fin.ext (by show (t.val * 2240 + r.val) % 70 = l.val; omega)

/-- A row of the block of route segments. -/
theorem row_rtB (r : Fin 800) (b : Fin 512) (l : Fin 25) (hb : b.val = t.val * 32 + r.val / 25)
    (hl : l.val = r.val % 25) : row (rtB m c t) r = pointRow (L := 25) (A5 m c) b l := by
  funext k
  have ht := point_lt t
  have hr := r.isLt
  refine (read_rtB m c t r k ⟨t.val * 800 + r.val, by omega⟩ rfl).trans ?_
  rw [V_v12]
  congr 1
  · exact Fin.ext (by show (t.val * 800 + r.val) / 25 = b.val; omega)
  · exact Fin.ext (by show (t.val * 800 + r.val) % 25 = l.val; omega)

/-! ## The weights -/

/-- The weights of the agent layer. -/
theorem par_7 : (iblk m c 7 t : Arr 2 ![231, 256]) = (m ((c : Thread nD τ).loc main_arg6) : Arr 2 ![231, 256]) := by
  refine Eq.trans ?_ (V_main_arg6 m c)
  unfold iblk
  show (((cfg0.win 7).blk t).view.read (Elt Ideal) _) = _
  generalize V m c main_arg6 = X
  blk_ext! [idx_par t]

/-- The weights of the type vectors. -/
theorem par_9 : (iblk m c 9 t : Arr 2 ![5, 256]) = (m ((c : Thread nD τ).loc main_arg8) : Arr 2 ![5, 256]) := by
  refine Eq.trans ?_ (V_main_arg8 m c)
  unfold iblk
  show (((cfg0.win 9).blk t).view.read (Elt Ideal) _) = _
  generalize V m c main_arg8 = X
  blk_ext! [idx_par t]

/-- The weights of the static layer. -/
theorem par_10 : (iblk m c 10 t : Arr 2 ![10, 256]) = (m ((c : Thread nD τ).loc main_arg9) : Arr 2 ![10, 256]) := by
  refine Eq.trans ?_ (V_main_arg9 m c)
  unfold iblk
  show (((cfg0.win 10).blk t).view.read (Elt Ideal) _) = _
  generalize V m c main_arg9 = X
  blk_ext! [idx_par t]

/-- The weights of the lane layer. -/
theorem par_12 : (iblk m c 12 t : Arr 2 ![240, 256]) = (m ((c : Thread nD τ).loc main_arg11) : Arr 2 ![240, 256]) := by
  refine Eq.trans ?_ (V_main_arg11 m c)
  unfold iblk
  show (((cfg0.win 12).blk t).view.read (Elt Ideal) _) = _
  generalize V m c main_arg11 = X
  blk_ext! [idx_par t]

/-- The weights of the traffic-light vectors. -/
theorem par_15 : (iblk m c 15 t : Arr 2 ![4, 256]) = (m ((c : Thread nD τ).loc main_arg16) : Arr 2 ![4, 256]) := by
  refine Eq.trans ?_ (V_main_arg16 m c)
  unfold iblk
  show (((cfg0.win 15).blk t).view.read (Elt Ideal) _) = _
  generalize V m c main_arg16 = X
  blk_ext! [idx_par t]

/-- The weights of the route layer. -/
theorem par_16 : (iblk m c 16 t : Arr 2 ![240, 256]) = (m ((c : Thread nD τ).loc main_arg17) : Arr 2 ![240, 256]) := by
  refine Eq.trans ?_ (V_main_arg17 m c)
  unfold iblk
  show (((cfg0.win 16).blk t).view.read (Elt Ideal) _) = _
  generalize V m c main_arg17 = X
  blk_ext! [idx_par t]

/-- The weights of the position layer. -/
theorem par_18 : (iblk m c 18 t : Arr 2 ![7, 256]) = (m ((c : Thread nD τ).loc main_arg19) : Arr 2 ![7, 256]) := by
  refine Eq.trans ?_ (V_main_arg19 m c)
  unfold iblk
  show (((cfg0.win 18).blk t).view.read (Elt Ideal) _) = _
  generalize V m c main_arg19 = X
  blk_ext! [idx_par t]

/-- The bias given in window 8. -/
theorem bias_8 (h : Fin 256) :
    (iblk m c 8 t : Arr 2 ![1, 256]) (ix2 0 h) = (m ((c : Thread nD τ).loc main_arg7) : Arr 1 ![256]) (ix1 h) := by
  refine Eq.trans ?_ (V_v37 m c 0 h)
  unfold iblk
  show (((cfg0.win 8).blk t).view.read (Elt Ideal) _) _ = _
  generalize V m c main_v37 = X
  blk_ext [idx_par t]

/-- The bias given in window 11. -/
theorem bias_11 (h : Fin 256) :
    (iblk m c 11 t : Arr 2 ![1, 256]) (ix2 0 h) = (m ((c : Thread nD τ).loc main_arg10) : Arr 1 ![256]) (ix1 h) := by
  refine Eq.trans ?_ (V_v38 m c 0 h)
  unfold iblk
  show (((cfg0.win 11).blk t).view.read (Elt Ideal) _) _ = _
  generalize V m c main_v38 = X
  blk_ext [idx_par t]

/-- The bias given in window 13. -/
theorem bias_13 (h : Fin 256) :
    (iblk m c 13 t : Arr 2 ![1, 256]) (ix2 0 h) = (m ((c : Thread nD τ).loc main_arg12) : Arr 1 ![256]) (ix1 h) := by
  refine Eq.trans ?_ (V_v39 m c 0 h)
  unfold iblk
  show (((cfg0.win 13).blk t).view.read (Elt Ideal) _) _ = _
  generalize V m c main_v39 = X
  blk_ext [idx_par t]

/-- The bias given in window 17. -/
theorem bias_17 (h : Fin 256) :
    (iblk m c 17 t : Arr 2 ![1, 256]) (ix2 0 h) = (m ((c : Thread nD τ).loc main_arg18) : Arr 1 ![256]) (ix1 h) := by
  refine Eq.trans ?_ (V_v40 m c 0 h)
  unfold iblk
  show (((cfg0.win 17).blk t).view.read (Elt Ideal) _) _ = _
  generalize V m c main_v40 = X
  blk_ext [idx_par t]

/-- The bias given in window 19. -/
theorem bias_19 (h : Fin 256) :
    (iblk m c 19 t : Arr 2 ![1, 256]) (ix2 0 h) = (m ((c : Thread nD τ).loc main_arg20) : Arr 1 ![256]) (ix1 h) := by
  refine Eq.trans ?_ (V_v41 m c 0 h)
  unfold iblk
  show (((cfg0.win 19).blk t).view.read (Elt Ideal) _) _ = _
  generalize V m c main_v41 = X
  blk_ext [idx_par t]

/-- The block of the weights of the speed-limit columns. -/
abbrev limWB : Arr 2 ![3, 256] := iblk m c 14 t

/-- They are given whole. -/
theorem read_limWB : limWB m c t = limitW m c := by
  unfold limWB iblk limitW
  show (((cfg0.win 14).blk t).view.read (Elt Ideal) _) = _
  generalize V m c main_v11 = X
  blk_ext! [idx_par t]

/-- The speed-limit term of a lane of the block. -/
theorem limit_term (r : Fin 2240) (h : Fin 256) (b : Fin 512) (l : Fin 70) (hb : b.val = t.val * 32 + r.val / 70)
    (hl : l.val = r.val % 70) :
    (∑ k : Fin 3, limB m c t (ix2 r k) * limWB m c t (ix2 k h))
      = speed (A4 m c (ix3 b l 0)) (A3 m c (ix3 b l 0)) ((m ((c : Thread nD τ).loc main_arg13) : Arr 2 ![1, 256]) (ix2 0 h))
          ((m ((c : Thread nD τ).loc main_arg14) : Arr 1 ![256]) (ix1 h))
          ((m ((c : Thread nD τ).loc main_arg15) : Arr 1 ![256]) (ix1 h)) := by
  have ht := point_lt t
  have hr := r.isLt
  have e := speed_entry m c ⟨t.val * 2240 + r.val, by omega⟩ h
  have eb : (⟨(t.val * 2240 + r.val) / 70, by omega⟩ : Fin 512) = b :=
    Fin.ext (by show (t.val * 2240 + r.val) / 70 = b.val; omega)
  have el : (⟨(t.val * 2240 + r.val) % 70, by omega⟩ : Fin 70) = l :=
    Fin.ext (by show (t.val * 2240 + r.val) % 70 = l.val; omega)
  rw [eb, el] at e
  rw [← e]
  refine Finset.sum_congr rfl fun k _ => ?_
  rw [read_limWB]
  exact congrArg (· * limitW m c (ix2 k h)) (read_limB m c t r k ⟨t.val * 2240 + r.val, by omega⟩ rfl)

/-! ## The positions -/

/-- The first coordinate of a token of the block. -/
theorem x_at (s : Fin 32) (i : Fin 125) (k : Fin 128) (hk : k.val = i.val) (b : Fin 512) (hb : b.val = t.val * 32 + s.val) :
    xB m c t (ix2 s k) = loc (A0 m c) (A1 m c) (A2 m c) b i 0 :=
  (read_xB m c t s k b hb).trans (V_v35 m c b i k hk)

/-- The second coordinate of a token of the block. -/
theorem y_at (s : Fin 32) (i : Fin 125) (k : Fin 128) (hk : k.val = i.val) (b : Fin 512) (hb : b.val = t.val * 32 + s.val) :
    yB m c t (ix2 s k) = loc (A0 m c) (A1 m c) (A2 m c) b i 1 :=
  (read_yB m c t s k b hb).trans (V_v36 m c b i k hk)

end Cert.KernelIdeal.Value
-- ==== Proof.Windows.lean ====
/- What the single-store results of the kernel's region hold: the validities and the mean over the routes. -/
module

public import proofs.«01_k».proof.Proof.Blocks
public import Idealize.ShloMosaic.Lib.Pointwise
public import Idealize.ShloMosaic.Lib.WordCmp
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Value
open Cert.KernelIdeal Cert.KernelIdeal.Gen Cert.Tokens

variable (m : (ℓ : Loc nD τ sig) → Buf (Elt Ideal) ℓ) (c : Dev nD)

/-- The validities of the agents. -/
theorem arr_22 : (dats m 0 c).arrAt 22 cfg0.N =
    (fun i : S16384x1.Idx => validity (agentRow (A0 m c) ⟨(i 0).val / 32, by have : (i 0).val < 16384 := (i 0).isLt; omega⟩
      ⟨(i 0).val % 32, by omega⟩) : Arr 2 ![16384, 1]) := by
  refine (dats m 0 c).arrAt_eq_of_covers 22 _ (by decide +kernel) fun t _ y => ?_
  blk_simp
  rw [after0_22]
  unfold Gen.outsAt0
  dsimp only
  frame_out
  obtain ⟨r, z, rfl⟩ : ∃ (r : Fin 1024) (z : Fin 1), y = ix2 r z := ⟨y 0, y 1, by blk_ext⟩
  refine (pay4_apply (nbB m c t) r z).trans ?_
  have ht := point_lt t
  rw [row_nbB m c t r ⟨t.val * 32 + r.val / 32, by omega⟩ ⟨r.val % 32, by omega⟩ rfl rfl]
  refine congrArg validity ?_
  congr 1
  all_goals (refine Fin.ext ?_; blk_simp [idx_out t]; dsimp only; omega)

/-- The validities of the static objects. -/
theorem arr_23 : (dats m 0 c).arrAt 23 cfg0.N =
    (fun i : S2560x1.Idx => validity (staticRow (A1 m c) ⟨(i 0).val / 5, by have : (i 0).val < 2560 := (i 0).isLt; omega⟩
      ⟨(i 0).val % 5, by omega⟩) : Arr 2 ![2560, 1]) := by
  refine (dats m 0 c).arrAt_eq_of_covers 23 _ (by decide +kernel) fun t _ y => ?_
  blk_simp
  rw [after0_23]
  unfold Gen.outsAt0
  dsimp only
  frame_out
  obtain ⟨r, z, rfl⟩ : ∃ (r : Fin 160) (z : Fin 1), y = ix2 r z := ⟨y 0, y 1, by blk_ext⟩
  refine (pay9_apply (stB m c t) r z).trans ?_
  have ht := point_lt t
  rw [row_stB m c t r ⟨t.val * 32 + r.val / 5, by omega⟩ ⟨r.val % 5, by omega⟩ rfl rfl]
  refine congrArg validity ?_
  congr 1
  all_goals (refine Fin.ext ?_; blk_simp [idx_out t]; dsimp only; omega)

/-- The validities of the lanes. -/
theorem arr_24 : (dats m 0 c).arrAt 24 cfg0.N =
    (fun i : S35840x1.Idx => validity (pointRow (L := 70) (A2 m c) ⟨(i 0).val / 70, by have : (i 0).val < 35840 := (i 0).isLt; omega⟩
      ⟨(i 0).val % 70, by omega⟩) : Arr 2 ![35840, 1]) := by
  refine (dats m 0 c).arrAt_eq_of_covers 24 _ (by decide +kernel) fun t _ y => ?_
  blk_simp
  rw [after0_24]
  unfold Gen.outsAt0
  dsimp only
  frame_out
  obtain ⟨r, z, rfl⟩ : ∃ (r : Fin 2240) (z : Fin 1), y = ix2 r z := ⟨y 0, y 1, by blk_ext⟩
  refine (pay12_apply (lnB m c t) r z).trans ?_
  have ht := point_lt t
  rw [row_lnB m c t r ⟨t.val * 32 + r.val / 70, by omega⟩ ⟨r.val % 70, by omega⟩ rfl rfl]
  refine congrArg validity ?_
  congr 1
  all_goals (refine Fin.ext ?_; blk_simp [idx_out t]; dsimp only; omega)

/-- The mean over the routes of sample `r` of the block. -/
theorem cond_block (t : Fin cfg0.N) (r : Fin 32) (h : Fin 256) (b : Fin 512) (g : Fin 256) (hb : b.val = t.val * 32 + r.val)
    (hg : g = h) :
    routeMean (fun s => row (rtB m c t) ⟨r.val * 25 + s.val, by omega⟩) (col (iblk m c 16 t : Arr 2 ![240, 256]) h)
        ((iblk m c 17 t : Arr 2 ![1, 256]) (ix2 0 h))
      = Tokens.cond (A5 m c) (m ((c : Thread nD τ).loc main_arg17)) (m ((c : Thread nD τ).loc main_arg18)) b g := by
  subst hg
  rw [par_16, bias_17]
  have e : ∀ s : Fin 25, row (rtB m c t) ⟨r.val * 25 + s.val, by omega⟩ = pointRow (L := 25) (A5 m c) b s := fun s =>
    row_rtB m c t _ _ s (by show b.val = t.val * 32 + (r.val * 25 + s.val) / 25; omega)
      (by show s.val = (r.val * 25 + s.val) % 25; omega)
  simp only [e]
  rfl

/-- The means over the routes. -/
theorem arr_25 : (dats m 0 c).arrAt 25 cfg0.N =
    (fun i : S512x256.Idx => Tokens.cond (A5 m c) (m ((c : Thread nD τ).loc main_arg17)) (m ((c : Thread nD τ).loc main_arg18)) (i 0) (i 1)
      : Arr 2 ![512, 256]) := by
  refine (dats m 0 c).arrAt_eq_of_covers 25 _ (by decide +kernel) fun t _ y => ?_
  blk_simp
  rw [after0_25]
  unfold Gen.outsAt0
  dsimp only
  frame_out
  obtain ⟨r, h, rfl⟩ : ∃ (r : Fin 32) (h : Fin 256), y = ix2 r h := ⟨y 0, y 1, by blk_ext⟩
  refine (pay19_apply (rtB m c t) (iblk m c 16 t) (iblk m c 17 t) r h).trans ?_
  refine cond_block m c t r h _ _ ?_ (Fin.ext ?_)
  · blk_simp [idx_out t]
  · blk_simp [idx_out t]

end Cert.KernelIdeal.Value
-- ==== Proof.Stores.lean ====
/- The three results that each point stores sample by sample: the tokens of agents and static objects, the tokens of lanes,
   and the distances between token positions. Each store of the kernel is one sample's part of one block array, and each
   block array is read, entry by entry, from the arguments. -/
module

public import proofs.«01_k».proof.Proof.Blocks
public import Idealize.ShloMosaic.Lib.Pointwise
public import Idealize.ShloMosaic.Lib.WordCmp
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Value

open Cert.KernelIdeal Cert.KernelIdeal.Gen Cert.Tokens

variable (m : (ℓ : Loc nD τ sig) → Buf (Elt Ideal) ℓ) (c : Dev nD)

/-! ## The block arrays, entry by entry -/

/-- The token of agent `l` of sample `s` of the block. -/
theorem agents_at (t : Fin cfg0.N) (r : Fin 1024) (h : Fin 256) (b : Fin 512) (l : Fin 32) (eb : b.val = t.val * 32 + r.val / 32)
    (el : l.val = r.val % 32) :
    k0_pay7 (F := Ideal) (iblk m c 18 t) (k0_pay2 (iblk m c 19 t)) (k0_pay3 (iblk m c 0 t)) (k0_pay4 (iblk m c 0 t))
        (k0_pay5 (iblk m c 0 t)) (k0_pay6 (iblk m c 0 t) (iblk m c 7 t)) (iblk m c 8 t) (iblk m c 9 t) (ix2 r h)
      = agentTok (agentRow (A0 m c) b l) (col (m ((c : Thread nD τ).loc main_arg6) : Arr 2 ![231, 256]) h)
          ((m ((c : Thread nD τ).loc main_arg7) : Arr 1 ![256]) (ix1 h))
          (col (m ((c : Thread nD τ).loc main_arg8) : Arr 2 ![5, 256]) h)
          (col (m ((c : Thread nD τ).loc main_arg19) : Arr 2 ![7, 256]) h)
          ((m ((c : Thread nD τ).loc main_arg20) : Arr 1 ![256]) (ix1 h)) := by
  refine (pay7_apply (iblk m c 18 t) (iblk m c 19 t) (nbB m c t) (iblk m c 7 t) (iblk m c 8 t) (iblk m c 9 t) r h).trans ?_
  rw [row_nbB m c t r b l eb el, par_7, par_9, par_18, bias_8, bias_19]

/-- The token of static object `l` of sample `s` of the block. -/
theorem statics_at (t : Fin cfg0.N) (r : Fin 160) (h : Fin 256) (b : Fin 512) (l : Fin 5) (eb : b.val = t.val * 32 + r.val / 5)
    (el : l.val = r.val % 5) :
    k0_pay10 (F := Ideal) (iblk m c 18 t) (k0_pay2 (iblk m c 19 t)) (iblk m c 1 t) (iblk m c 10 t) (iblk m c 11 t) (ix2 r h)
      = staticTok (staticRow (A1 m c) b l) (col (m ((c : Thread nD τ).loc main_arg9) : Arr 2 ![10, 256]) h)
          ((m ((c : Thread nD τ).loc main_arg10) : Arr 1 ![256]) (ix1 h))
          (col (m ((c : Thread nD τ).loc main_arg19) : Arr 2 ![7, 256]) h)
          ((m ((c : Thread nD τ).loc main_arg20) : Arr 1 ![256]) (ix1 h)) := by
  refine (pay10_apply (iblk m c 18 t) (iblk m c 19 t) (stB m c t) (iblk m c 10 t) (iblk m c 11 t) r h).trans ?_
  rw [row_stB m c t r b l eb el, par_10, par_18, bias_11, bias_19]

/-- The token of lane `l` of sample `s` of the block. -/
theorem lanes_at (t : Fin cfg0.N) (r : Fin 2240) (h : Fin 256) (b : Fin 512) (l : Fin 70) (eb : b.val = t.val * 32 + r.val / 70)
    (el : l.val = r.val % 70) :
    k0_pay15 (F := Ideal) (iblk m c 18 t) (k0_pay2 (iblk m c 19 t)) (k0_pay11 (iblk m c 2 t)) (k0_pay12 (iblk m c 2 t))
        (k0_pay13 (iblk m c 2 t)) (k0_pay14 (iblk m c 2 t) (iblk m c 12 t) (iblk m c 13 t)) (iblk m c 3 t) (iblk m c 14 t)
        (iblk m c 15 t) (ix2 r h)
      = laneTok (pointRow (L := 70) (A2 m c) b l) (col (m ((c : Thread nD τ).loc main_arg11) : Arr 2 ![240, 256]) h)
          ((m ((c : Thread nD τ).loc main_arg12) : Arr 1 ![256]) (ix1 h))
          (speed (A4 m c (ix3 b l 0)) (A3 m c (ix3 b l 0)) ((m ((c : Thread nD τ).loc main_arg13) : Arr 2 ![1, 256]) (ix2 0 h))
            ((m ((c : Thread nD τ).loc main_arg14) : Arr 1 ![256]) (ix1 h))
            ((m ((c : Thread nD τ).loc main_arg15) : Arr 1 ![256]) (ix1 h)))
          (col (m ((c : Thread nD τ).loc main_arg16) : Arr 2 ![4, 256]) h)
          (col (m ((c : Thread nD τ).loc main_arg19) : Arr 2 ![7, 256]) h)
          ((m ((c : Thread nD τ).loc main_arg20) : Arr 1 ![256]) (ix1 h)) := by
  refine (pay15_apply (iblk m c 18 t) (iblk m c 19 t) (lnB m c t) (iblk m c 12 t) (iblk m c 13 t) (limB m c t) (limWB m c t)
    (iblk m c 15 t) r h).trans ?_
  rw [limit_term m c t r h b l eb el, row_lnB m c t r b l eb el, par_12, par_15, par_18, bias_13, bias_19]

/-! ## The results from their stores -/

set_option maxHeartbeats 8000000 in
/-- The tokens of agents and static objects. -/
theorem arr_20 : (dats m 0 c).arrAt 20 cfg0.N = (fun i : S512x37x256.Idx =>
    encA (A0 m c) (A1 m c) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg19)) (m ((c : Thread nD τ).loc main_arg20)) (i 0) (i 1) (i 2)
      : Arr 3 ![512, 37, 256]) := by
  refine (dats m 0 c).arrAt_eq_of_covers 20 _ (by decide +kernel) fun t _ y => ?_
  blk_simp
  rw [after0_20]
  unfold Gen.outsAt0
  dsimp only
  frame_out
  have key0 := agents_at m c t
  have key1 := statics_at m c t
  generalize k0_pay7 (F := Ideal) (iblk m c 18 t) (k0_pay2 (iblk m c 19 t)) (k0_pay3 (iblk m c 0 t)) (k0_pay4 (iblk m c 0 t))
    (k0_pay5 (iblk m c 0 t)) (k0_pay6 (iblk m c 0 t) (iblk m c 7 t)) (iblk m c 8 t) (iblk m c 9 t) = T at key0 ⊢
  generalize k0_pay10 (F := Ideal) (iblk m c 18 t) (k0_pay2 (iblk m c 19 t)) (iblk m c 1 t) (iblk m c 10 t) (iblk m c 11 t) = U
    at key1 ⊢
  have y0 : (y 0).val < 32 := (y 0).isLt
  have y1 : (y 1).val < 37 := (y 1).isLt
  refine Eq.trans (b := if small : (y 1).val < 32 then (T (ix2 ⟨(y 0).val * 32 + (y 1).val, by omega⟩ (y 2)) : EReal)
    else U (ix2 ⟨(y 0).val * 5 + ((y 1).val - 32), by omega⟩ (y 2))) ?_ ?_
  · canon_tiles x h using (View.cover_of_tiledBy _ ![1, 1, 256] (by sl_kernel_rfl) _)
    all_goals (open_payloads; pointwise [h0, h1, h2]; blk_ext)
  · obtain ⟨s, l, h, rfl⟩ : ∃ (s : Fin 32) (l : Fin 37) (h : Fin 256), y = ix3 s l h := ⟨y 0, y 1, y 2, by blk_ext⟩
    have ht := point_lt t
    have e : ∀ (b : Fin 512) (l' : Fin 37) (h' : Fin 256), b.val = t.val * 32 + s.val → l' = l → h' = h →
        (if small : l.val < 32 then (T (ix2 ⟨s.val * 32 + l.val, by omega⟩ h) : EReal)
          else U (ix2 ⟨s.val * 5 + (l.val - 32), by omega⟩ h))
        = encA (A0 m c) (A1 m c) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg19)) (m ((c : Thread nD τ).loc main_arg20)) b l' h' := by
      rintro b _ _ eb rfl rfl
      unfold encA
      split
      · exact key0 _ _ b ⟨_, by omega⟩ (by dsimp only; omega) (by dsimp only; omega)
      · exact key1 _ _ b ⟨_, by omega⟩ (by dsimp only; omega) (by dsimp only; omega)
    refine e _ _ _ ?_ (Fin.ext ?_) (Fin.ext ?_)
    · blk_simp [idx_out t]
    · blk_simp [idx_out t]
    · blk_simp [idx_out t]

set_option maxHeartbeats 8000000 in
/-- The tokens of lanes. -/
theorem arr_21 : (dats m 0 c).arrAt 21 cfg0.N = (fun i : S512x70x256.Idx =>
    encL (A2 m c) (A3 m c) (A4 m c) (m ((c : Thread nD τ).loc main_arg11)) (m ((c : Thread nD τ).loc main_arg12))
      (m ((c : Thread nD τ).loc main_arg13)) (m ((c : Thread nD τ).loc main_arg14)) (m ((c : Thread nD τ).loc main_arg15))
      (m ((c : Thread nD τ).loc main_arg16)) (m ((c : Thread nD τ).loc main_arg19)) (m ((c : Thread nD τ).loc main_arg20))
      (i 0) (i 1) (i 2) : Arr 3 ![512, 70, 256]) := by
  refine (dats m 0 c).arrAt_eq_of_covers 21 _ (by decide +kernel) fun t _ y => ?_
  blk_simp
  rw [after0_21]
  unfold Gen.outsAt0
  dsimp only
  frame_out
  have key := lanes_at m c t
  generalize k0_pay15 (F := Ideal) (iblk m c 18 t) (k0_pay2 (iblk m c 19 t)) (k0_pay11 (iblk m c 2 t)) (k0_pay12 (iblk m c 2 t))
    (k0_pay13 (iblk m c 2 t)) (k0_pay14 (iblk m c 2 t) (iblk m c 12 t) (iblk m c 13 t)) (iblk m c 3 t) (iblk m c 14 t)
    (iblk m c 15 t) = T at key ⊢
  have y0 : (y 0).val < 32 := (y 0).isLt
  have y1 : (y 1).val < 70 := (y 1).isLt
  refine Eq.trans (b := (T (ix2 ⟨(y 0).val * 70 + (y 1).val, by omega⟩ (y 2)) : EReal)) ?_ ?_
  · canon_tiles x h using (View.cover_of_tiledBy _ ![1, 70, 256] (by sl_kernel_rfl) _)
    all_goals (open_payloads; pointwise [h0, h1, h2]; blk_ext)
  · obtain ⟨s, l, h, rfl⟩ : ∃ (s : Fin 32) (l : Fin 70) (h : Fin 256), y = ix3 s l h := ⟨y 0, y 1, y 2, by blk_ext⟩
    have ht := point_lt t
    have e : ∀ (b : Fin 512) (l' : Fin 70) (h' : Fin 256), b.val = t.val * 32 + s.val → l' = l → h' = h →
        (T (ix2 ⟨s.val * 70 + l.val, by omega⟩ h) : EReal)
        = encL (A2 m c) (A3 m c) (A4 m c) (m ((c : Thread nD τ).loc main_arg11)) (m ((c : Thread nD τ).loc main_arg12))
          (m ((c : Thread nD τ).loc main_arg13)) (m ((c : Thread nD τ).loc main_arg14)) (m ((c : Thread nD τ).loc main_arg15))
          (m ((c : Thread nD τ).loc main_arg16)) (m ((c : Thread nD τ).loc main_arg19)) (m ((c : Thread nD τ).loc main_arg20))
          b l' h' := by
      rintro b _ _ eb rfl rfl
      exact key _ _ b _ (by dsimp only; omega) (by dsimp only; omega)
    refine e _ _ _ ?_ (Fin.ext ?_) (Fin.ext ?_)
    · blk_simp [idx_out t]
    · blk_simp [idx_out t]
    · blk_simp [idx_out t]

set_option maxHeartbeats 8000000 in
/-- The distances between token positions. -/
theorem arr_26 : (dats m 0 c).arrAt 26 cfg0.N = (fun i : S512x125x125.Idx =>
    tokenDist (A0 m c) (A1 m c) (A2 m c) (i 0) (i 1) (i 2) : Arr 3 ![512, 125, 125]) := by
  refine (dats m 0 c).arrAt_eq_of_covers 26 _ (by decide +kernel) fun t _ y => ?_
  blk_simp
  rw [after0_26]
  unfold Gen.outsAt0
  dsimp only
  frame_out
  have keyX := x_at m c t
  have keyY := y_at m c t
  unfold xB at keyX
  unfold yB at keyY
  generalize iblk m c 5 t = X at keyX ⊢
  generalize iblk m c 6 t = Y at keyY ⊢
  have y0 : (y 0).val < 32 := (y 0).isLt
  have y1 : (y 1).val < 125 := (y 1).isLt
  have y2 : (y 2).val < 125 := (y 2).isLt
  refine Eq.trans (b := planeDist (X (ix2 ⟨(y 0).val, y0⟩ ⟨(y 1).val, by omega⟩)) (X (ix2 ⟨(y 0).val, y0⟩ ⟨(y 2).val, by omega⟩))
    (Y (ix2 ⟨(y 0).val, y0⟩ ⟨(y 1).val, by omega⟩)) (Y (ix2 ⟨(y 0).val, y0⟩ ⟨(y 2).val, by omega⟩))) ?_ ?_
  · unfold planeDist
    canon_tiles x h using (View.cover_of_tiledBy _ ![1, 125, 125] (by sl_kernel_rfl) _)
    all_goals (open_payloads; pointwise [h0, h1, h2]; try blk_ext)
  · obtain ⟨s, i, j, rfl⟩ : ∃ (s : Fin 32) (i : Fin 125) (j : Fin 125), y = ix3 s i j := ⟨y 0, y 1, y 2, by blk_ext⟩
    have e : ∀ (b : Fin 512) (i' j' : Fin 125), b.val = t.val * 32 + s.val → i' = i → j' = j →
        planeDist (X (ix2 s ⟨i.val, by omega⟩)) (X (ix2 s ⟨j.val, by omega⟩)) (Y (ix2 s ⟨i.val, by omega⟩))
            (Y (ix2 s ⟨j.val, by omega⟩))
          = tokenDist (A0 m c) (A1 m c) (A2 m c) b i' j' := by
      rintro b _ _ eb rfl rfl
      exact congr (congr (congr (congrArg planeDist (keyX s _ _ rfl b eb)) (keyX s _ _ rfl b eb)) (keyY s _ _ rfl b eb))
        (keyY s _ _ rfl b eb)
    refine e _ _ _ ?_ (Fin.ext ?_) (Fin.ext ?_)
    · blk_simp [idx_out t]
    · blk_simp [idx_out t]
    · blk_simp [idx_out t]

end Cert.KernelIdeal.Value
-- ==== Proof.Tail.lean ====
/- What the operations after the kernel's pipeline leave in the two results that are rows of bits: whether each row of the
   arguments has mass, and the run of the whole program with every result named. -/
module

public import proofs.«01_k».proof.Proof.Windows
public import proofs.«01_k».proof.Proof.Stores

@[expose] public section

set_option maxRecDepth 16384

noncomputable section

open Idealize.ShloMosaic Idealize.ShloMosaic.TcCoe Idealize.SL.Sem

namespace Cert.KernelIdeal.Value

open Cert.KernelIdeal Cert.KernelIdeal.Gen Cert.Tokens

variable (m : (ℓ : Loc nD τ sig) → Buf (Elt Ideal) ℓ) (c : Dev nD)

/-- One half, by its bit pattern. -/
theorem num_half : Ideal.ofBits FTy.f32 0x3F000000#32 = ((1 / 2 : ℝ) : EReal) := by
  simp [Ideal.ofBits, Ideal.ieee, -EReal.coe_mul]; norm_num

/-- The bit that a row's validity exceeds one half says that the row has mass. -/
theorem validity_gt {K : ℕ} (x : Fin K → EReal) :
    BitVec.ofBool (decide (Ideal.ofBits FTy.f32 0x3F000000#32 < validity x)) = hasMass x := by
  rw [num_half]
  unfold validity hasMass
  by_cases e : mass x = 0
  · rw [if_pos e]
    have : ¬(((1 / 2 : ℝ) : EReal) < 0) := by rw [not_lt]; exact_mod_cast (by norm_num : (0 : ℝ) ≤ 1 / 2)
    simp only [this, e, not_true]
  · rw [if_neg e]
    have : ((1 / 2 : ℝ) : EReal) < 1 := by exact_mod_cast (by norm_num : (1 / 2 : ℝ) < 1)
    simp only [this, e, not_false_eq_true]

/-- The agents' validities are read as the pipeline leaves them. -/
theorem kept_22 : Pipeline.withArrays (cfgs 0).spec c (V0 m c) (fun w => (dats m 0 c).arrAt w (cfgs 0).N) (Proc.tc.devRef main_v42_2)
    = (dats m 0 c).arrAt 22 cfg0.N :=
  Pipeline.withArrays_arr (cfgs 0).spec launch0.win.arr_inj c (V0 m c) (fun w => (dats m 0 c).arrAt w (cfgs 0).N) 22

/-- The static objects' validities are read as the pipeline leaves them. -/
theorem kept_23 : Pipeline.withArrays (cfgs 0).spec c (V0 m c) (fun w => (dats m 0 c).arrAt w (cfgs 0).N) (Proc.tc.devRef main_v42_3)
    = (dats m 0 c).arrAt 23 cfg0.N :=
  Pipeline.withArrays_arr (cfgs 0).spec launch0.win.arr_inj c (V0 m c) (fun w => (dats m 0 c).arrAt w (cfgs 0).N) 23

/-- The lanes' validities are read as the pipeline leaves them. -/
theorem kept_24 : Pipeline.withArrays (cfgs 0).spec c (V0 m c) (fun w => (dats m 0 c).arrAt w (cfgs 0).N) (Proc.tc.devRef main_v42_4)
    = (dats m 0 c).arrAt 24 cfg0.N :=
  Pipeline.withArrays_arr (cfgs 0).spec launch0.win.arr_inj c (V0 m c) (fun w => (dats m 0 c).arrAt w (cfgs 0).N) 24

/-- The fourth result: which lanes have mass. -/
theorem tail_v50 : Pipeline.afterTail₀ cfgs (dats m) 0 (V0 m) [hostOps1] c main_v50
    = (fun i : S512x70.Idx => maskL (A2 m c) (i 0) (i 1) : IVec S512x70 1) := by
  generalize hG : (fun i : S512x70.Idx => maskL (A2 m c) (i 0) (i 1) : IVec S512x70 1) = G
  unfold Pipeline.afterTail₀
  simp only [List.flatten_cons, List.flatten_nil, List.append_nil]
  after_region_results
  rw [kept_24, arr_24]
  subst hG
  funext i
  obtain ⟨b, l, rfl⟩ : ∃ (b : Fin 512) (l : Fin 70), i = ix2 b l := ⟨i 0, i 1, by blk_ext⟩
  pointwise
  rw [validity_gt]
  unfold maskL
  congr 2
  all_goals (refine Fin.ext ?_; dsimp only; omega)

/-- The third result: which agents and static objects have mass. -/
theorem tail_v47 : Pipeline.afterTail₀ cfgs (dats m) 0 (V0 m) [hostOps1] c main_v47
    = (fun i : S512x37.Idx => maskA (A0 m c) (A1 m c) (i 0) (i 1) : IVec S512x37 1) := by
  generalize hG : (fun i : S512x37.Idx => maskA (A0 m c) (A1 m c) (i 0) (i 1) : IVec S512x37 1) = G
  unfold Pipeline.afterTail₀
  simp only [List.flatten_cons, List.flatten_nil, List.append_nil]
  after_region_results
  rw [kept_22, arr_22, kept_23, arr_23]
  subst hG
  funext i
  obtain ⟨b, l, rfl⟩ : ∃ (b : Fin 512) (l : Fin 37), i = ix2 b l := ⟨i 0, i 1, by blk_ext⟩
  pointwise
  unfold maskA
  split
  · rw [validity_gt]
    congr 2
    all_goals (refine Fin.ext ?_; dsimp only; omega)
  · rw [validity_gt]
    congr 2
    all_goals (refine Fin.ext ?_; dsimp only; omega)

/-! ## The results -/

/-- The first result. -/
def out1 : Arr 3 ![512, 37, 256] := fun i =>
  encA (A0 m c) (A1 m c) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg19)) (m ((c : Thread nD τ).loc main_arg20)) (i 0) (i 1) (i 2)

/-- The second result. -/
def out2 : Arr 3 ![512, 70, 256] := fun i =>
  encL (A2 m c) (A3 m c) (A4 m c) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) (m ((c : Thread nD τ).loc main_arg19)) (m ((c : Thread nD τ).loc main_arg20))
    (i 0) (i 1) (i 2)

/-- The third result. -/
def out3 : IVec S512x37 1 := fun i => maskA (A0 m c) (A1 m c) (i 0) (i 1)

/-- The fourth result. -/
def out4 : IVec S512x70 1 := fun i => maskL (A2 m c) (i 0) (i 1)

/-- The fifth result. -/
def out5 : Arr 2 ![512, 256] := fun i =>
  Tokens.cond (A5 m c) (m ((c : Thread nD τ).loc main_arg17)) (m ((c : Thread nD τ).loc main_arg18)) (i 0) (i 1)

/-- The sixth result. -/
def out6 : Arr 3 ![512, 125, 125] := fun i => tokenDist (A0 m c) (A1 m c) (A2 m c) (i 0) (i 1) (i 2)

/-- Every execution of the program ends with the six results named above. -/
theorem results (ρ : Dev nD → PrngReg) : θ_run defs (onTc (τ := τ) (main (F := Ideal))) ⟨m, fun _ => 0, ρ⟩ (fun r => ∀ c : Dev nD,
      r.2.mem ((c.tc : Thread nD τ).loc main_v42_0) = out1 m c
      ∧ r.2.mem ((c.tc : Thread nD τ).loc main_v42_1) = out2 m c
      ∧ r.2.mem ((c.tc : Thread nD τ).loc main_v47) = out3 m c
      ∧ r.2.mem ((c.tc : Thread nD τ).loc main_v50) = out4 m c
      ∧ r.2.mem ((c.tc : Thread nD τ).loc main_v42_5) = out5 m c
      ∧ r.2.mem ((c.tc : Thread nD τ).loc main_v42_6) = out6 m c) :=
  (θ_run _ _ _).mono (fun r h c => ⟨((h c).1 20).trans (arr_20 m c), ((h c).1 21).trans (arr_21 m c),
    ((h c).2 main_v47 (by decide)).trans (tail_v47 m c), ((h c).2 main_v50 (by decide)).trans (tail_v50 m c),
    ((h c).1 25).trans (arr_25 m c), ((h c).1 26).trans (arr_26 m c)⟩) (run_main m ρ)

end Cert.KernelIdeal.Value
-- ==== Proof.Same.lean ====
/- The reference's six results, from memories that agree on the arguments, are the functions that the kernel's results are. -/
module

public import proofs.«01_k».proof.Proof.Ref
public import proofs.«01_k».proof.Proof.Tail

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Tokens StableHlo Cert.KernelIdeal.Value

variable (m : (ℓ : Loc Cert.KernelIdeal.nD Cert.KernelIdeal.τ Cert.KernelIdeal.sig) → Buf (Elt Ideal) ℓ)
  (m' : (ℓ : Loc nD τ sig) → Buf (Elt Ideal) ℓ) (c : Dev Cert.KernelIdeal.nD)

/-- The two memories hold the same arguments. -/
abbrev Agree : Prop :=
  m' ((c.tc : Thread nD τ).loc main_arg0) = m ((c.tc : Thread Cert.KernelIdeal.nD Cert.KernelIdeal.τ).loc Cert.KernelIdeal.main_arg0)
    ∧ m' ((c.tc : Thread nD τ).loc main_arg1) = m ((c.tc : Thread Cert.KernelIdeal.nD Cert.KernelIdeal.τ).loc Cert.KernelIdeal.main_arg1)
    ∧ m' ((c.tc : Thread nD τ).loc main_arg2) = m ((c.tc : Thread Cert.KernelIdeal.nD Cert.KernelIdeal.τ).loc Cert.KernelIdeal.main_arg2)
    ∧ m' ((c.tc : Thread nD τ).loc main_arg3) = m ((c.tc : Thread Cert.KernelIdeal.nD Cert.KernelIdeal.τ).loc Cert.KernelIdeal.main_arg3)
    ∧ m' ((c.tc : Thread nD τ).loc main_arg4) = m ((c.tc : Thread Cert.KernelIdeal.nD Cert.KernelIdeal.τ).loc Cert.KernelIdeal.main_arg4)
    ∧ m' ((c.tc : Thread nD τ).loc main_arg5) = m ((c.tc : Thread Cert.KernelIdeal.nD Cert.KernelIdeal.τ).loc Cert.KernelIdeal.main_arg5)
    ∧ m' ((c.tc : Thread nD τ).loc main_arg6) = m ((c.tc : Thread Cert.KernelIdeal.nD Cert.KernelIdeal.τ).loc Cert.KernelIdeal.main_arg6)
    ∧ m' ((c.tc : Thread nD τ).loc main_arg7) = m ((c.tc : Thread Cert.KernelIdeal.nD Cert.KernelIdeal.τ).loc Cert.KernelIdeal.main_arg7)
    ∧ m' ((c.tc : Thread nD τ).loc main_arg8) = m ((c.tc : Thread Cert.KernelIdeal.nD Cert.KernelIdeal.τ).loc Cert.KernelIdeal.main_arg8)
    ∧ m' ((c.tc : Thread nD τ).loc main_arg9) = m ((c.tc : Thread Cert.KernelIdeal.nD Cert.KernelIdeal.τ).loc Cert.KernelIdeal.main_arg9)
    ∧ m' ((c.tc : Thread nD τ).loc main_arg10) = m ((c.tc : Thread Cert.KernelIdeal.nD Cert.KernelIdeal.τ).loc Cert.KernelIdeal.main_arg10)
    ∧ m' ((c.tc : Thread nD τ).loc main_arg11) = m ((c.tc : Thread Cert.KernelIdeal.nD Cert.KernelIdeal.τ).loc Cert.KernelIdeal.main_arg11)
    ∧ m' ((c.tc : Thread nD τ).loc main_arg12) = m ((c.tc : Thread Cert.KernelIdeal.nD Cert.KernelIdeal.τ).loc Cert.KernelIdeal.main_arg12)
    ∧ m' ((c.tc : Thread nD τ).loc main_arg13) = m ((c.tc : Thread Cert.KernelIdeal.nD Cert.KernelIdeal.τ).loc Cert.KernelIdeal.main_arg13)
    ∧ m' ((c.tc : Thread nD τ).loc main_arg14) = m ((c.tc : Thread Cert.KernelIdeal.nD Cert.KernelIdeal.τ).loc Cert.KernelIdeal.main_arg14)
    ∧ m' ((c.tc : Thread nD τ).loc main_arg15) = m ((c.tc : Thread Cert.KernelIdeal.nD Cert.KernelIdeal.τ).loc Cert.KernelIdeal.main_arg15)
    ∧ m' ((c.tc : Thread nD τ).loc main_arg16) = m ((c.tc : Thread Cert.KernelIdeal.nD Cert.KernelIdeal.τ).loc Cert.KernelIdeal.main_arg16)
    ∧ m' ((c.tc : Thread nD τ).loc main_arg17) = m ((c.tc : Thread Cert.KernelIdeal.nD Cert.KernelIdeal.τ).loc Cert.KernelIdeal.main_arg17)
    ∧ m' ((c.tc : Thread nD τ).loc main_arg18) = m ((c.tc : Thread Cert.KernelIdeal.nD Cert.KernelIdeal.τ).loc Cert.KernelIdeal.main_arg18)
    ∧ m' ((c.tc : Thread nD τ).loc main_arg19) = m ((c.tc : Thread Cert.KernelIdeal.nD Cert.KernelIdeal.τ).loc Cert.KernelIdeal.main_arg19)
    ∧ m' ((c.tc : Thread nD τ).loc main_arg20) = m ((c.tc : Thread Cert.KernelIdeal.nD Cert.KernelIdeal.τ).loc Cert.KernelIdeal.main_arg20)

/-- The results at one device. -/
theorem same (e : Agree m m' c) :
    (val3 (launchContents m' c) (Proc.devRef .tc main_v113) : FVec Ideal S512x37x256 .f32) = out1 m c
    ∧ (val3 (launchContents m' c) (Proc.devRef .tc main_v103) : FVec Ideal S512x70x256 .f32) = out2 m c
    ∧ (val3 (launchContents m' c) (Proc.devRef .tc main_v116) : IVec S512x37 1) = out3 m c
    ∧ (val3 (launchContents m' c) (Proc.devRef .tc main_v117) : IVec S512x70 1) = out4 m c
    ∧ (val3 (launchContents m' c) (Proc.devRef .tc main_v112) : FVec Ideal S512x256 .f32) = out5 m c
    ∧ (val3 (launchContents m' c) (Proc.devRef .tc main_v73) : FVec Ideal S512x125x125 .f32) = out6 m c := by
  obtain ⟨e0, e1, e2, e3, e4, e5, e6, e7, e8, e9, e10, e11, e12, e13, e14, e15, e16, e17, e18, e19, e20⟩ := e
  have a0 : (launchContents m' c (Proc.devRef .tc main_arg0) : Arr 4 ![512, 32, 21, 11]) = m ((c.tc : Thread Cert.KernelIdeal.nD Cert.KernelIdeal.τ).loc Cert.KernelIdeal.main_arg0) := e0
  have a1 : (launchContents m' c (Proc.devRef .tc main_arg1) : Arr 3 ![512, 5, 10]) = m ((c.tc : Thread Cert.KernelIdeal.nD Cert.KernelIdeal.τ).loc Cert.KernelIdeal.main_arg1) := e1
  have a2 : (launchContents m' c (Proc.devRef .tc main_arg2) : Arr 4 ![512, 70, 20, 12]) = m ((c.tc : Thread Cert.KernelIdeal.nD Cert.KernelIdeal.τ).loc Cert.KernelIdeal.main_arg2) := e2
  have a3 : (launchContents m' c (Proc.devRef .tc main_arg3) : Arr 3 ![512, 70, 1]) = m ((c.tc : Thread Cert.KernelIdeal.nD Cert.KernelIdeal.τ).loc Cert.KernelIdeal.main_arg3) := e3
  have a4 : (launchContents m' c (Proc.devRef .tc main_arg4) : IVec ⟨3, ![512, 70, 1]⟩ 1) = m ((c.tc : Thread Cert.KernelIdeal.nD Cert.KernelIdeal.τ).loc Cert.KernelIdeal.main_arg4) := e4
  have a5 : (launchContents m' c (Proc.devRef .tc main_arg5) : Arr 4 ![512, 25, 20, 12]) = m ((c.tc : Thread Cert.KernelIdeal.nD Cert.KernelIdeal.τ).loc Cert.KernelIdeal.main_arg5) := e5
  have a6 : (launchContents m' c (Proc.devRef .tc main_arg6) : Arr 2 ![231, 256]) = m ((c.tc : Thread Cert.KernelIdeal.nD Cert.KernelIdeal.τ).loc Cert.KernelIdeal.main_arg6) := e6
  have a7 : (launchContents m' c (Proc.devRef .tc main_arg7) : Arr 1 ![256]) = m ((c.tc : Thread Cert.KernelIdeal.nD Cert.KernelIdeal.τ).loc Cert.KernelIdeal.main_arg7) := e7
  have a8 : (launchContents m' c (Proc.devRef .tc main_arg8) : Arr 2 ![5, 256]) = m ((c.tc : Thread Cert.KernelIdeal.nD Cert.KernelIdeal.τ).loc Cert.KernelIdeal.main_arg8) := e8
  have a9 : (launchContents m' c (Proc.devRef .tc main_arg9) : Arr 2 ![10, 256]) = m ((c.tc : Thread Cert.KernelIdeal.nD Cert.KernelIdeal.τ).loc Cert.KernelIdeal.main_arg9) := e9
  have a10 : (launchContents m' c (Proc.devRef .tc main_arg10) : Arr 1 ![256]) = m ((c.tc : Thread Cert.KernelIdeal.nD Cert.KernelIdeal.τ).loc Cert.KernelIdeal.main_arg10) := e10
  have a11 : (launchContents m' c (Proc.devRef .tc main_arg11) : Arr 2 ![240, 256]) = m ((c.tc : Thread Cert.KernelIdeal.nD Cert.KernelIdeal.τ).loc Cert.KernelIdeal.main_arg11) := e11
  have a12 : (launchContents m' c (Proc.devRef .tc main_arg12) : Arr 1 ![256]) = m ((c.tc : Thread Cert.KernelIdeal.nD Cert.KernelIdeal.τ).loc Cert.KernelIdeal.main_arg12) := e12
  have a13 : (launchContents m' c (Proc.devRef .tc main_arg13) : Arr 2 ![1, 256]) = m ((c.tc : Thread Cert.KernelIdeal.nD Cert.KernelIdeal.τ).loc Cert.KernelIdeal.main_arg13) := e13
  have a14 : (launchContents m' c (Proc.devRef .tc main_arg14) : Arr 1 ![256]) = m ((c.tc : Thread Cert.KernelIdeal.nD Cert.KernelIdeal.τ).loc Cert.KernelIdeal.main_arg14) := e14
  have a15 : (launchContents m' c (Proc.devRef .tc main_arg15) : Arr 1 ![256]) = m ((c.tc : Thread Cert.KernelIdeal.nD Cert.KernelIdeal.τ).loc Cert.KernelIdeal.main_arg15) := e15
  have a16 : (launchContents m' c (Proc.devRef .tc main_arg16) : Arr 2 ![4, 256]) = m ((c.tc : Thread Cert.KernelIdeal.nD Cert.KernelIdeal.τ).loc Cert.KernelIdeal.main_arg16) := e16
  have a17 : (launchContents m' c (Proc.devRef .tc main_arg17) : Arr 2 ![240, 256]) = m ((c.tc : Thread Cert.KernelIdeal.nD Cert.KernelIdeal.τ).loc Cert.KernelIdeal.main_arg17) := e17
  have a18 : (launchContents m' c (Proc.devRef .tc main_arg18) : Arr 1 ![256]) = m ((c.tc : Thread Cert.KernelIdeal.nD Cert.KernelIdeal.τ).loc Cert.KernelIdeal.main_arg18) := e18
  have a19 : (launchContents m' c (Proc.devRef .tc main_arg19) : Arr 2 ![7, 256]) = m ((c.tc : Thread Cert.KernelIdeal.nD Cert.KernelIdeal.τ).loc Cert.KernelIdeal.main_arg19) := e19
  have a20 : (launchContents m' c (Proc.devRef .tc main_arg20) : Arr 1 ![256]) = m ((c.tc : Thread Cert.KernelIdeal.nD Cert.KernelIdeal.τ).loc Cert.KernelIdeal.main_arg20) := e20
  refine ⟨funext fun y => ?_, funext fun y => ?_, funext fun y => ?_, funext fun y => ?_, funext fun y => ?_, funext fun y => ?_⟩
  · obtain ⟨b, l, h, rfl⟩ : ∃ (b : Fin 512) (l : Fin 37) (h : Fin 256), y = ix3 b l h := ⟨y 0, y 1, y 2, by blk_ext⟩
    refine (v113 (launchContents m' c) b l h).trans ?_
    rw [a0, a1, a6, a7, a8, a9, a10, a19, a20]
    rfl
  · obtain ⟨b, l, h, rfl⟩ : ∃ (b : Fin 512) (l : Fin 70) (h : Fin 256), y = ix3 b l h := ⟨y 0, y 1, y 2, by blk_ext⟩
    refine (v103 (launchContents m' c) b l h).trans ?_
    rw [a2, a3, a4, a11, a12, a13, a14, a15, a16, a19, a20]
    rfl
  · obtain ⟨b, l, rfl⟩ : ∃ (b : Fin 512) (l : Fin 37), y = ix2 b l := ⟨y 0, y 1, by blk_ext⟩
    refine (v116 (launchContents m' c) b l).trans ?_
    rw [a0, a1]
    rfl
  · obtain ⟨b, l, rfl⟩ : ∃ (b : Fin 512) (l : Fin 70), y = ix2 b l := ⟨y 0, y 1, by blk_ext⟩
    refine (v117 (launchContents m' c) b l).trans ?_
    rw [a2]
    rfl
  · obtain ⟨b, h, rfl⟩ : ∃ (b : Fin 512) (h : Fin 256), y = ix2 b h := ⟨y 0, y 1, by blk_ext⟩
    refine (v112 (launchContents m' c) b h).trans ?_
    rw [a5, a17, a18]
    rfl
  · obtain ⟨b, i, j, rfl⟩ : ∃ (b : Fin 512) (i j : Fin 125), y = ix3 b i j := ⟨y 0, y 1, y 2, by blk_ext⟩
    refine (v73 (launchContents m' c) b i j).trans ?_
    rw [a0, a1, a2]
    rfl

end Cert.ReferenceIdeal.Value
-- ==== Proof.lean ====
/- The five claims: each of the three programs runs to its end and leaves its arguments unchanged with every counter at zero;
   the kernel with one named constant is the kernel's idealization; and over the extended reals the kernel and the reference
   end with the same six results. Both programs' results are shown to be the functions of Proof/Spec.lean, entry by entry. -/
module

public import proofs.«01_k».proof.Defs
public import proofs.«01_k».proof.Proof.BodyKernel
public import proofs.«01_k».proof.Proof.Same
public import proofs.«01_k».proof.Proof.Gen.Kernel
public import proofs.«01_k».proof.Proof.Gen.KernelIdeal
public import proofs.«01_k».proof.Proof.Gen.ReferenceIdeal
public import Idealize.ShloMosaic.Lib.Claim

@[expose] public section

set_option maxRecDepth 16384

noncomputable section

namespace Cert.Proof

open Idealize.ShloMosaic Idealize.ShloMosaic.TcCoe Idealize.SL.Sem

/-- The reference leaves its arguments unchanged. It has no semaphore. -/
theorem reference_frame : Cert.quiescent_ReferenceIdeal := by
  intro m g _
  exact (θ_run _ _ _).mono (fun r h => ⟨fun c => (h c).2.2.2.2.2.2, sem_eq_zero_of_no_sems rfl _⟩) (Cert.ReferenceIdeal.Value.run m g)

/-- The idealization names the reciprocal of the number of route segments. -/
theorem preserves : Cert.preserves_Kernel_KernelIdeal :=
  IdealRules.named_const.statement Cert.KernelIdeal.κ "inv_routes" .f32 0x3D23D70A#32 ((25⁻¹ : ℝ) : EReal) rfl

/-- Over the extended reals the kernel and the reference end with the same six results. -/
theorem algebraic : Cert.algebraic_KernelIdeal_ReferenceIdeal := by
  intro m g m' g' _ hagree
  refine ⟨Cert.KernelIdeal.Value.out1 m, Cert.KernelIdeal.Value.out2 m, Cert.KernelIdeal.Value.out3 m,
    Cert.KernelIdeal.Value.out4 m, Cert.KernelIdeal.Value.out5 m, Cert.KernelIdeal.Value.out6 m, ?_, ?_⟩
  · refine (θ_run _ _ _).mono (fun r h c => ?_) (θ_run_and (Cert.KernelIdeal.Value.results m g) (Cert.KernelIdeal.Gen.unchanged m g))
    obtain ⟨h1, h2, h3, h4, h5, h6⟩ := h.1 c
    exact ⟨h1, h2, h3, h4, h5, h6, h.2 c⟩
  · refine (θ_run _ _ _).mono (fun r h c => ?_) (Cert.ReferenceIdeal.Value.run m' g')
    obtain ⟨h1, h2, h3, h4, h5, h6, kept⟩ := h c
    have e := Cert.ReferenceIdeal.Value.same m m' c (hagree c)
    exact ⟨(h1.trans (Cert.ReferenceIdeal.Value.val3_main_v113 _).symm).trans e.1,
      (h2.trans (Cert.ReferenceIdeal.Value.val3_main_v103 _).symm).trans e.2.1,
      (h3.trans (Cert.ReferenceIdeal.Value.val3_main_v116 _).symm).trans e.2.2.1,
      (h4.trans (Cert.ReferenceIdeal.Value.val3_main_v117 _).symm).trans e.2.2.2.1,
      (h5.trans (Cert.ReferenceIdeal.Value.val3_main_v112 _).symm).trans e.2.2.2.2.1,
      (h6.trans (Cert.ReferenceIdeal.Value.val3_main_v73 _).symm).trans e.2.2.2.2.2,
      kept⟩

/-- The claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, preserves, algebraic⟩

end Cert.Proof

end
